-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_sqrt_d" .f32 0x3DB504F3#32 (((Real.sqrt 128)⁻¹ : ℝ) : EReal)

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![16384, 128]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 128]⟩ ⟨2, ![16384, 128]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 128]⟩ ⟨2, ![16384, 128]⟩ 0 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 128]⟩ ⟨2, ![16384, 128]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S1024x128 : Shape := ⟨2, ![1024, 128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel

variable [Facts]

def fn {F : FTy → Type} [FloatOps F] (main_arg0 : FVec F S1024x128 .bf16) (main_arg1 : FVec F S1024x128 .bf16) (main_arg2 : FVec F S1024x128 .bf16) : IVec S_ 1 :=
  let main_v0 : FVec F S1024x128 .bf16 := Host.absf main_arg0
  let main_cst : FVec F S_ .bf16 := constant S_ .bf16 0x7F80#16
  let main_v1 : FVec F S1024x128 .bf16 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x128 .bf16 := Host.absf main_arg1
  let main_cst_0 : FVec F S_ .bf16 := constant S_ .bf16 0x7F80#16
  let main_v5 : FVec F S1024x128 .bf16 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  main_v8
-- ==== Pre_finite_qk_ReferenceIdeal.lean ====
abbrev S16384x128 : Shape := ⟨2, ![16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x128 .bf16) (main_arg1 : FVec F S16384x128 .bf16) (main_arg2 : FVec F S16384x128 .bf16) : IVec S_ 1 :=
  let main_v0 : FVec F S16384x128 .bf16 := Host.absf main_arg0
  let main_cst : FVec F S_ .bf16 := constant S_ .bf16 0x7F80#16
  let main_v1 : FVec F S16384x128 .bf16 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x128 .bf16 := Host.absf main_arg1
  let main_cst_0 : FVec F S_ .bf16 := constant S_ .bf16 0x7F80#16
  let main_v5 : FVec F S16384x128 .bf16 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  main_v8
-- ==== Kernel.lean ====
abbrev S1024x128 : Shape := ⟨2, ![1024, 128]⟩
abbrev S16x1024x128 : Shape := ⟨3, ![16, 1024, 128]⟩
abbrev S32 : Shape := ⟨1, ![32]⟩
abbrev S_ : Shape := ⟨0, ![]⟩
abbrev S1x1024x128 : Shape := ⟨3, ![1, 1024, 128]⟩
abbrev S1024x1 : Shape := ⟨2, ![1024, 1]⟩
abbrev S1 : Shape := ⟨1, ![1]⟩
abbrev S1024x1024 : Shape := ⟨2, ![1024, 1024]⟩
abbrev S1024 : Shape := ⟨1, ![1024]⟩

abbrev nBuf : Space → Nat
  | .hbm => 4
  | .vmem => 6
  | .smem => 0
  | _ => 0

abbrev bufTy : (tb : Table) → Fin (tcTables nBuf tb) → BufTy
  | .hbm, ⟨0, _⟩ => ⟨S1024x128, .bf16⟩
  | .hbm, ⟨1, _⟩ => ⟨S1024x128, .bf16⟩
  | .hbm, ⟨2, _⟩ => ⟨S1024x128, .bf16⟩
  | .hbm, ⟨3, _⟩ => ⟨S1024x128, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .f32⟩
  | .local _ .vmem, ⟨4, _⟩ => ⟨S16x1024x128, .bf16⟩
  | .local _ .vmem, ⟨5, _⟩ => ⟨S16x1024x128, .bf16⟩
  | _, _ => ⟨S1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c3_i32_18 : BitVec 32 := 3#32
  let v34 : BitVec 32 := Scalar.select v33 c5_i32_17 c3_i32_18
  let v36 : BitVec 32 := Scalar.select v35 c1_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c10_i32_44 v58
  let v62 : BitVec 32 := Scalar.select v61 c14_i32_46 v60
  let c1_i32_48 : BitVec 32 := 1#32
  let v64 : BitVec 32 := Scalar.muli v62 c1_i32_48
  let v65 : BitVec 32 := Scalar.addi c0_i32_49 v64
  v65.toNat
def k0_dev2 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_11 : BitVec 32 := 13#32
  let v27 : BitVec 1 := Scalar.cmpi .eq v2 c13_i32_11
  let c9_i32_12 : BitVec 32 := 9#32
  let c12_i32_10 : BitVec 32 := 12#32
  let v25 : BitVec 1 := Scalar.cmpi .eq v2 c12_i32_10
  let c13_i32 : BitVec 32 := 13#32
  let c11_i32 : BitVec 32 := 11#32
  let v23 : BitVec 1 := Scalar.cmpi .eq v2 c11_i32
  let c7_i32_9 : BitVec 32 := 7#32
  let c10_i32_8 : BitVec 32 := 10#32
  let v21 : BitVec 1 := Scalar.cmpi .eq v2 c10_i32_8
  let c14_i32 : BitVec 32 := 14#32
  let c9_i32 : BitVec 32 := 9#32
  let v19 : BitVec 1 := Scalar.cmpi .eq v2 c9_i32
  let c5_i32_7 : BitVec 32 := 5#32
  let c8_i32_6 : BitVec 32 := 8#32
  let v17 : BitVec 1 := Scalar.cmpi .eq v2 c8_i32_6
  let c12_i32 : BitVec 32 := 12#32
  let c7_i32 : BitVec 32 := 7#32
  let v15 : BitVec 1 := Scalar.cmpi .eq v2 c7_i32
  let c3_i32_5 : BitVec 32 := 3#32
  let c6_i32_4 : BitVec 32 := 6#32
  let v13 : BitVec 1 := Scalar.cmpi .eq v2 c6_i32_4
  let c10_i32 : BitVec 32 := 10#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c8_i32 : BitVec 32 := 8#32
  let c3_i32 : BitVec 32 := 3#32
  let v7 : BitVec 1 := Scalar.cmpi .eq v2 c3_i32
  let c0_i32 : BitVec 32 := 0#32
  let c2_i32_1 : BitVec 32 := 2#32
  let v5 : BitVec 1 := Scalar.cmpi .eq v2 c2_i32_1
  let c6_i32 : BitVec 32 := 6#32
  let c1_i32_0 : BitVec 32 := 1#32
  let v3 : BitVec 1 := Scalar.cmpi .eq v2 c1_i32_0
  let c2_i32 : BitVec 32 := 2#32
  let c4_i32 : BitVec 32 := 4#32
  let v4 : BitVec 32 := Scalar.select v3 c2_i32 c4_i32
  let v6 : BitVec 32 := Scalar.select v5 c6_i32 v4
  let v8 : BitVec 32 := Scalar.select v7 c0_i32 v6
  let v10 : BitVec 32 := Scalar.select v9 c8_i32 v8
  let v12 : BitVec 32 := Scalar.select v11 c1_i32_3 v10
  let v14 : BitVec 32 := Scalar.select v13 c10_i32 v12
  let v16 : BitVec 32 := Scalar.select v15 c3_i32_5 v14
  let v18 : BitVec 32 := Scalar.select v17 c12_i32 v16
  let v20 : BitVec 32 := Scalar.select v19 c5_i32_7 v18
  let v22 : BitVec 32 := Scalar.select v21 c14_i32 v20
  let v24 : BitVec 32 := Scalar.select v23 c7_i32_9 v22
  let v26 : BitVec 32 := Scalar.select v25 c13_i32 v24
  let v28 : BitVec 32 := Scalar.select v27 c9_i32_12 v26
  let v30 : BitVec 32 := Scalar.select v29 c15_i32 v28
  let v32 : BitVec 32 := Scalar.select v31 c11_i32_15 v30
  let c1_i32_51 : BitVec 32 := 1#32
  let v66 : BitVec 32 := Scalar.muli v32 c1_i32_51
  let v67 : BitVec 32 := Scalar.addi c0_i32_52 v66
  v67.toNat
def k0_dev3 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_11 : BitVec 32 := 13#32
  let v27 : BitVec 1 := Scalar.cmpi .eq v2 c13_i32_11
  let c9_i32_12 : BitVec 32 := 9#32
  let c12_i32_10 : BitVec 32 := 12#32
  let v25 : BitVec 1 := Scalar.cmpi .eq v2 c12_i32_10
  let c13_i32 : BitVec 32 := 13#32
  let c11_i32 : BitVec 32 := 11#32
  let v23 : BitVec 1 := Scalar.cmpi .eq v2 c11_i32
  let c7_i32_9 : BitVec 32 := 7#32
  let c10_i32_8 : BitVec 32 := 10#32
  let v21 : BitVec 1 := Scalar.cmpi .eq v2 c10_i32_8
  let c14_i32 : BitVec 32 := 14#32
  let c9_i32 : BitVec 32 := 9#32
  let v19 : BitVec 1 := Scalar.cmpi .eq v2 c9_i32
  let c5_i32_7 : BitVec 32 := 5#32
  let c8_i32_6 : BitVec 32 := 8#32
  let v17 : BitVec 1 := Scalar.cmpi .eq v2 c8_i32_6
  let c12_i32 : BitVec 32 := 12#32
  let c7_i32 : BitVec 32 := 7#32
  let v15 : BitVec 1 := Scalar.cmpi .eq v2 c7_i32
  let c3_i32_5 : BitVec 32 := 3#32
  let c6_i32_4 : BitVec 32 := 6#32
  let v13 : BitVec 1 := Scalar.cmpi .eq v2 c6_i32_4
  let c10_i32 : BitVec 32 := 10#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c8_i32 : BitVec 32 := 8#32
  let c3_i32 : BitVec 32 := 3#32
  let v7 : BitVec 1 := Scalar.cmpi .eq v2 c3_i32
  let c0_i32 : BitVec 32 := 0#32
  let c2_i32_1 : BitVec 32 := 2#32
  let v5 : BitVec 1 := Scalar.cmpi .eq v2 c2_i32_1
  let c6_i32 : BitVec 32 := 6#32
  let c1_i32_0 : BitVec 32 := 1#32
  let v3 : BitVec 1 := Scalar.cmpi .eq v2 c1_i32_0
  let c2_i32 : BitVec 32 := 2#32
  let c4_i32 : BitVec 32 := 4#32
  let v4 : BitVec 32 := Scalar.select v3 c2_i32 c4_i32
  let v6 : BitVec 32 := Scalar.select v5 c6_i32 v4
  let v8 : BitVec 32 := Scalar.select v7 c0_i32 v6
  let v10 : BitVec 32 := Scalar.select v9 c8_i32 v8
  let v12 : BitVec 32 := Scalar.select v11 c1_i32_3 v10
  let v14 : BitVec 32 := Scalar.select v13 c10_i32 v12
  let v16 : BitVec 32 := Scalar.select v15 c3_i32_5 v14
  let v18 : BitVec 32 := Scalar.select v17 c12_i32 v16
  let v20 : BitVec 32 := Scalar.select v19 c5_i32_7 v18
  let v22 : BitVec 32 := Scalar.select v21 c14_i32 v20
  let v24 : BitVec 32 := Scalar.select v23 c7_i32_9 v22
  let v26 : BitVec 32 := Scalar.select v25 c13_i32 v24
  let v28 : BitVec 32 := Scalar.select v27 c9_i32_12 v26
  let v30 : BitVec 32 := Scalar.select v29 c15_i32 v28
  let v32 : BitVec 32 := Scalar.select v31 c11_i32_15 v30
  let c1_i32_64 : BitVec 32 := 1#32
  let v76 : BitVec 32 := Scalar.muli v32 c1_i32_64
  let v77 : BitVec 32 := Scalar.addi c0_i32_65 v76
  v77.toNat
def k0_dev4 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c3_i32_18 : BitVec 32 := 3#32
  let v34 : BitVec 32 := Scalar.select v33 c5_i32_17 c3_i32_18
  let v36 : BitVec 32 := Scalar.select v35 c1_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c10_i32_44 v58
  let v62 : BitVec 32 := Scalar.select v61 c14_i32_46 v60
  let c1_i32_74 : BitVec 32 := 1#32
  let v86 : BitVec 32 := Scalar.muli v62 c1_i32_74
  let v87 : BitVec 32 := Scalar.addi c0_i32_75 v86
  v87.toNat
def k0_dev5 (d0 : Dev nD) : Nat :=
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_11 : BitVec 32 := 13#32
  let v27 : BitVec 1 := Scalar.cmpi .eq v2 c13_i32_11
  let c9_i32_12 : BitVec 32 := 9#32
  let c12_i32_10 : BitVec 32 := 12#32
  let v25 : BitVec 1 := Scalar.cmpi .eq v2 c12_i32_10
  let c13_i32 : BitVec 32 := 13#32
  let c11_i32 : BitVec 32 := 11#32
  let v23 : BitVec 1 := Scalar.cmpi .eq v2 c11_i32
  let c7_i32_9 : BitVec 32 := 7#32
  let c10_i32_8 : BitVec 32 := 10#32
  let v21 : BitVec 1 := Scalar.cmpi .eq v2 c10_i32_8
  let c14_i32 : BitVec 32 := 14#32
  let c9_i32 : BitVec 32 := 9#32
  let v19 : BitVec 1 := Scalar.cmpi .eq v2 c9_i32
  let c5_i32_7 : BitVec 32 := 5#32
  let c8_i32_6 : BitVec 32 := 8#32
  let v17 : BitVec 1 := Scalar.cmpi .eq v2 c8_i32_6
  let c12_i32 : BitVec 32 := 12#32
  let c7_i32 : BitVec 32 := 7#32
  let v15 : BitVec 1 := Scalar.cmpi .eq v2 c7_i32
  let c3_i32_5 : BitVec 32 := 3#32
  let c6_i32_4 : BitVec 32 := 6#32
  let v13 : BitVec 1 := Scalar.cmpi .eq v2 c6_i32_4
  let c10_i32 : BitVec 32 := 10#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c8_i32 : BitVec 32 := 8#32
  let c3_i32 : BitVec 32 := 3#32
  let v7 : BitVec 1 := Scalar.cmpi .eq v2 c3_i32
  let c0_i32 : BitVec 32 := 0#32
  let c2_i32_1 : BitVec 32 := 2#32
  let v5 : BitVec 1 := Scalar.cmpi .eq v2 c2_i32_1
  let c6_i32 : BitVec 32 := 6#32
  let c1_i32_0 : BitVec 32 := 1#32
  let v3 : BitVec 1 := Scalar.cmpi .eq v2 c1_i32_0
  let c2_i32 : BitVec 32 := 2#32
  let c4_i32 : BitVec 32 := 4#32
  let v4 : BitVec 32 := Scalar.select v3 c2_i32 c4_i32
  let v6 : BitVec 32 := Scalar.select v5 c6_i32 v4
  let v8 : BitVec 32 := Scalar.select v7 c0_i32 v6
  let v10 : BitVec 32 := Scalar.select v9 c8_i32 v8
  let v12 : BitVec 32 := Scalar.select v11 c1_i32_3 v10
  let v14 : BitVec 32 := Scalar.select v13 c10_i32 v12
  let v16 : BitVec 32 := Scalar.select v15 c3_i32_5 v14
  let v18 : BitVec 32 := Scalar.select v17 c12_i32 v16
  let v20 : BitVec 32 := Scalar.select v19 c5_i32_7 v18
  let v22 : BitVec 32 := Scalar.select v21 c14_i32 v20
  let v24 : BitVec 32 := Scalar.select v23 c7_i32_9 v22
  let v26 : BitVec 32 := Scalar.select v25 c13_i32 v24
  let v28 : BitVec 32 := Scalar.select v27 c9_i32_12 v26
  let v30 : BitVec 32 := Scalar.select v29 c15_i32 v28
  let v32 : BitVec 32 := Scalar.select v31 c11_i32_15 v30
  let c1_i32_91 : BitVec 32 := 1#32
  let v103 : BitVec 32 := Scalar.muli v32 c1_i32_91
  let v104 : BitVec 32 := Scalar.addi c0_i32_92 v103
  v104.toNat
def k0_dev6 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c3_i32_18 : BitVec 32 := 3#32
  let v34 : BitVec 32 := Scalar.select v33 c5_i32_17 c3_i32_18
  let v36 : BitVec 32 := Scalar.select v35 c1_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c10_i32_44 v58
  let v62 : BitVec 32 := Scalar.select v61 c14_i32_46 v60
  let c1_i32_101 : BitVec 32 := 1#32
  let v113 : BitVec 32 := Scalar.muli v62 c1_i32_101
  let v114 : BitVec 32 := Scalar.addi c0_i32_102 v113
  v114.toNat
def k0_dev7 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_11 : BitVec 32 := 13#32
  let v27 : BitVec 1 := Scalar.cmpi .eq v2 c13_i32_11
  let c9_i32_12 : BitVec 32 := 9#32
  let c12_i32_10 : BitVec 32 := 12#32
  let v25 : BitVec 1 := Scalar.cmpi .eq v2 c12_i32_10
  let c13_i32 : BitVec 32 := 13#32
  let c11_i32 : BitVec 32 := 11#32
  let v23 : BitVec 1 := Scalar.cmpi .eq v2 c11_i32
  let c7_i32_9 : BitVec 32 := 7#32
  let c10_i32_8 : BitVec 32 := 10#32
  let v21 : BitVec 1 := Scalar.cmpi .eq v2 c10_i32_8
  let c14_i32 : BitVec 32 := 14#32
  let c9_i32 : BitVec 32 := 9#32
  let v19 : BitVec 1 := Scalar.cmpi .eq v2 c9_i32
  let c5_i32_7 : BitVec 32 := 5#32
  let c8_i32_6 : BitVec 32 := 8#32
  let v17 : BitVec 1 := Scalar.cmpi .eq v2 c8_i32_6
  let c12_i32 : BitVec 32 := 12#32
  let c7_i32 : BitVec 32 := 7#32
  let v15 : BitVec 1 := Scalar.cmpi .eq v2 c7_i32
  let c3_i32_5 : BitVec 32 := 3#32
  let c6_i32_4 : BitVec 32 := 6#32
  let v13 : BitVec 1 := Scalar.cmpi .eq v2 c6_i32_4
  let c10_i32 : BitVec 32 := 10#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c8_i32 : BitVec 32 := 8#32
  let c3_i32 : BitVec 32 := 3#32
  let v7 : BitVec 1 := Scalar.cmpi .eq v2 c3_i32
  let c0_i32 : BitVec 32 := 0#32
  let c2_i32_1 : BitVec 32 := 2#32
  let v5 : BitVec 1 := Scalar.cmpi .eq v2 c2_i32_1
  let c6_i32 : BitVec 32 := 6#32
  let c1_i32_0 : BitVec 32 := 1#32
  let v3 : BitVec 1 := Scalar.cmpi .eq v2 c1_i32_0
  let c2_i32 : BitVec 32 := 2#32
  let c4_i32 : BitVec 32 := 4#32
  let v4 : BitVec 32 := Scalar.select v3 c2_i32 c4_i32
  let v6 : BitVec 32 := Scalar.select v5 c6_i32 v4
  let v8 : BitVec 32 := Scalar.select v7 c0_i32 v6
  let v10 : BitVec 32 := Scalar.select v9 c8_i32 v8
  let v12 : BitVec 32 := Scalar.select v11 c1_i32_3 v10
  let v14 : BitVec 32 := Scalar.select v13 c10_i32 v12
  let v16 : BitVec 32 := Scalar.select v15 c3_i32_5 v14
  let v18 : BitVec 32 := Scalar.select v17 c12_i32 v16
  let v20 : BitVec 32 := Scalar.select v19 c5_i32_7 v18
  let v22 : BitVec 32 := Scalar.select v21 c14_i32 v20
  let v24 : BitVec 32 := Scalar.select v23 c7_i32_9 v22
  let v26 : BitVec 32 := Scalar.select v25 c13_i32 v24
  let v28 : BitVec 32 := Scalar.select v27 c9_i32_12 v26
  let v30 : BitVec 32 := Scalar.select v29 c15_i32 v28
  let v32 : BitVec 32 := Scalar.select v31 c11_i32_15 v30
  let c1_i32_132 : BitVec 32 := 1#32
  let v155 : BitVec 32 := Scalar.muli v32 c1_i32_132
  let v156 : BitVec 32 := Scalar.addi c0_i32_133 v155
  v156.toNat
def k0_dev8 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c3_i32_18 : BitVec 32 := 3#32
  let v34 : BitVec 32 := Scalar.select v33 c5_i32_17 c3_i32_18
  let v36 : BitVec 32 := Scalar.select v35 c1_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c10_i32_44 v58
  let v62 : BitVec 32 := Scalar.select v61 c14_i32_46 v60
  let c1_i32_152 : BitVec 32 := 1#32
  let v173 : BitVec 32 := Scalar.muli v62 c1_i32_152
  let v174 : BitVec 32 := Scalar.addi c0_i32_153 v173
  v174.toNat
def k0_dev9 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_11 : BitVec 32 := 13#32
  let v27 : BitVec 1 := Scalar.cmpi .eq v2 c13_i32_11
  let c9_i32_12 : BitVec 32 := 9#32
  let c12_i32_10 : BitVec 32 := 12#32
  let v25 : BitVec 1 := Scalar.cmpi .eq v2 c12_i32_10
  let c13_i32 : BitVec 32 := 13#32
  let c11_i32 : BitVec 32 := 11#32
  let v23 : BitVec 1 := Scalar.cmpi .eq v2 c11_i32
  let c7_i32_9 : BitVec 32 := 7#32
  let c10_i32_8 : BitVec 32 := 10#32
  let v21 : BitVec 1 := Scalar.cmpi .eq v2 c10_i32_8
  let c14_i32 : BitVec 32 := 14#32
  let c9_i32 : BitVec 32 := 9#32
  let v19 : BitVec 1 := Scalar.cmpi .eq v2 c9_i32
  let c5_i32_7 : BitVec 32 := 5#32
  let c8_i32_6 : BitVec 32 := 8#32
  let v17 : BitVec 1 := Scalar.cmpi .eq v2 c8_i32_6
  let c12_i32 : BitVec 32 := 12#32
  let c7_i32 : BitVec 32 := 7#32
  let v15 : BitVec 1 := Scalar.cmpi .eq v2 c7_i32
  let c3_i32_5 : BitVec 32 := 3#32
  let c6_i32_4 : BitVec 32 := 6#32
  let v13 : BitVec 1 := Scalar.cmpi .eq v2 c6_i32_4
  let c10_i32 : BitVec 32 := 10#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c8_i32 : BitVec 32 := 8#32
  let c3_i32 : BitVec 32 := 3#32
  let v7 : BitVec 1 := Scalar.cmpi .eq v2 c3_i32
  let c0_i32 : BitVec 32 := 0#32
  let c2_i32_1 : BitVec 32 := 2#32
  let v5 : BitVec 1 := Scalar.cmpi .eq v2 c2_i32_1
  let c6_i32 : BitVec 32 := 6#32
  let c1_i32_0 : BitVec 32 := 1#32
  let v3 : BitVec 1 := Scalar.cmpi .eq v2 c1_i32_0
  let c2_i32 : BitVec 32 := 2#32
  let c4_i32 : BitVec 32 := 4#32
  let v4 : BitVec 32 := Scalar.select v3 c2_i32 c4_i32
  let v6 : BitVec 32 := Scalar.select v5 c6_i32 v4
  let v8 : BitVec 32 := Scalar.select v7 c0_i32 v6
  let v10 : BitVec 32 := Scalar.select v9 c8_i32 v8
  let v12 : BitVec 32 := Scalar.select v11 c1_i32_3 v10
  let v14 : BitVec 32 := Scalar.select v13 c10_i32 v12
  let v16 : BitVec 32 := Scalar.select v15 c3_i32_5 v14
  let v18 : BitVec 32 := Scalar.select v17 c12_i32 v16
  let v20 : BitVec 32 := Scalar.select v19 c5_i32_7 v18
  let v22 : BitVec 32 := Scalar.select v21 c14_i32 v20
  let v24 : BitVec 32 := Scalar.select v23 c7_i32_9 v22
  let v26 : BitVec 32 := Scalar.select v25 c13_i32 v24
  let v28 : BitVec 32 := Scalar.select v27 c9_i32_12 v26
  let v30 : BitVec 32 := Scalar.select v29 c15_i32 v28
  let v32 : BitVec 32 := Scalar.select v31 c11_i32_15 v30
  let c1_i32_178 : BitVec 32 := 1#32
  let v209 : BitVec 32 := Scalar.muli v32 c1_i32_178
  let v210 : BitVec 32 := Scalar.addi c0_i32_179 v209
  v210.toNat
def k0_dev10 (d0 : Dev nD) : Nat :=
  let c0_i32_209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c3_i32_18 : BitVec 32 := 3#32
  let v34 : BitVec 32 := Scalar.select v33 c5_i32_17 c3_i32_18
  let v36 : BitVec 32 := Scalar.select v35 c1_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c10_i32_44 v58
  let v62 : BitVec 32 := Scalar.select v61 c14_i32_46 v60
  let c1_i32_208 : BitVec 32 := 1#32
  let v251 : BitVec 32 := Scalar.muli v62 c1_i32_208
  let v252 : BitVec 32 := Scalar.addi c0_i32_209 v251
  v252.toNat
def k0_dev11 (d0 : Dev nD) : Nat :=
  let c0_i32_233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_11 : BitVec 32 := 13#32
  let v27 : BitVec 1 := Scalar.cmpi .eq v2 c13_i32_11
  let c9_i32_12 : BitVec 32 := 9#32
  let c12_i32_10 : BitVec 32 := 12#32
  let v25 : BitVec 1 := Scalar.cmpi .eq v2 c12_i32_10
  let c13_i32 : BitVec 32 := 13#32
  let c11_i32 : BitVec 32 := 11#32
  let v23 : BitVec 1 := Scalar.cmpi .eq v2 c11_i32
  let c7_i32_9 : BitVec 32 := 7#32
  let c10_i32_8 : BitVec 32 := 10#32
  let v21 : BitVec 1 := Scalar.cmpi .eq v2 c10_i32_8
  let c14_i32 : BitVec 32 := 14#32
  let c9_i32 : BitVec 32 := 9#32
  let v19 : BitVec 1 := Scalar.cmpi .eq v2 c9_i32
  let c5_i32_7 : BitVec 32 := 5#32
  let c8_i32_6 : BitVec 32 := 8#32
  let v17 : BitVec 1 := Scalar.cmpi .eq v2 c8_i32_6
  let c12_i32 : BitVec 32 := 12#32
  let c7_i32 : BitVec 32 := 7#32
  let v15 : BitVec 1 := Scalar.cmpi .eq v2 c7_i32
  let c3_i32_5 : BitVec 32 := 3#32
  let c6_i32_4 : BitVec 32 := 6#32
  let v13 : BitVec 1 := Scalar.cmpi .eq v2 c6_i32_4
  let c10_i32 : BitVec 32 := 10#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c8_i32 : BitVec 32 := 8#32
  let c3_i32 : BitVec 32 := 3#32
  let v7 : BitVec 1 := Scalar.cmpi .eq v2 c3_i32
  let c0_i32 : BitVec 32 := 0#32
  let c2_i32_1 : BitVec 32 := 2#32
  let v5 : BitVec 1 := Scalar.cmpi .eq v2 c2_i32_1
  let c6_i32 : BitVec 32 := 6#32
  let c1_i32_0 : BitVec 32 := 1#32
  let v3 : BitVec 1 := Scalar.cmpi .eq v2 c1_i32_0
  let c2_i32 : BitVec 32 := 2#32
  let c4_i32 : BitVec 32 := 4#32
  let v4 : BitVec 32 := Scalar.select v3 c2_i32 c4_i32
  let v6 : BitVec 32 := Scalar.select v5 c6_i32 v4
  let v8 : BitVec 32 := Scalar.select v7 c0_i32 v6
  let v10 : BitVec 32 := Scalar.select v9 c8_i32 v8
  let v12 : BitVec 32 := Scalar.select v11 c1_i32_3 v10
  let v14 : BitVec 32 := Scalar.select v13 c10_i32 v12
  let v16 : BitVec 32 := Scalar.select v15 c3_i32_5 v14
  let v18 : BitVec 32 := Scalar.select v17 c12_i32 v16
  let v20 : BitVec 32 := Scalar.select v19 c5_i32_7 v18
  let v22 : BitVec 32 := Scalar.select v21 c14_i32 v20
  let v24 : BitVec 32 := Scalar.select v23 c7_i32_9 v22
  let v26 : BitVec 32 := Scalar.select v25 c13_i32 v24
  let v28 : BitVec 32 := Scalar.select v27 c9_i32_12 v26
  let v30 : BitVec 32 := Scalar.select v29 c15_i32 v28
  let v32 : BitVec 32 := Scalar.select v31 c11_i32_15 v30
  let c1_i32_232 : BitVec 32 := 1#32
  let v275 : BitVec 32 := Scalar.muli v32 c1_i32_232
  let v276 : BitVec 32 := Scalar.addi c0_i32_233 v275
  v276.toNat
def k0_dev12 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c3_i32_18 : BitVec 32 := 3#32
  let v34 : BitVec 32 := Scalar.select v33 c5_i32_17 c3_i32_18
  let v36 : BitVec 32 := Scalar.select v35 c1_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c10_i32_44 v58
  let v62 : BitVec 32 := Scalar.select v61 c14_i32_46 v60
  let c1_i32_252 : BitVec 32 := 1#32
  let v293 : BitVec 32 := Scalar.muli v62 c1_i32_252
  let v294 : BitVec 32 := Scalar.addi c0_i32_253 v293
  v294.toNat
def k0_dev13 (d0 : Dev nD) : Nat :=
  let c0_i32_279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_11 : BitVec 32 := 13#32
  let v27 : BitVec 1 := Scalar.cmpi .eq v2 c13_i32_11
  let c9_i32_12 : BitVec 32 := 9#32
  let c12_i32_10 : BitVec 32 := 12#32
  let v25 : BitVec 1 := Scalar.cmpi .eq v2 c12_i32_10
  let c13_i32 : BitVec 32 := 13#32
  let c11_i32 : BitVec 32 := 11#32
  let v23 : BitVec 1 := Scalar.cmpi .eq v2 c11_i32
  let c7_i32_9 : BitVec 32 := 7#32
  let c10_i32_8 : BitVec 32 := 10#32
  let v21 : BitVec 1 := Scalar.cmpi .eq v2 c10_i32_8
  let c14_i32 : BitVec 32 := 14#32
  let c9_i32 : BitVec 32 := 9#32
  let v19 : BitVec 1 := Scalar.cmpi .eq v2 c9_i32
  let c5_i32_7 : BitVec 32 := 5#32
  let c8_i32_6 : BitVec 32 := 8#32
  let v17 : BitVec 1 := Scalar.cmpi .eq v2 c8_i32_6
  let c12_i32 : BitVec 32 := 12#32
  let c7_i32 : BitVec 32 := 7#32
  let v15 : BitVec 1 := Scalar.cmpi .eq v2 c7_i32
  let c3_i32_5 : BitVec 32 := 3#32
  let c6_i32_4 : BitVec 32 := 6#32
  let v13 : BitVec 1 := Scalar.cmpi .eq v2 c6_i32_4
  let c10_i32 : BitVec 32 := 10#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c8_i32 : BitVec 32 := 8#32
  let c3_i32 : BitVec 32 := 3#32
  let v7 : BitVec 1 := Scalar.cmpi .eq v2 c3_i32
  let c0_i32 : BitVec 32 := 0#32
  let c2_i32_1 : BitVec 32 := 2#32
  let v5 : BitVec 1 := Scalar.cmpi .eq v2 c2_i32_1
  let c6_i32 : BitVec 32 := 6#32
  let c1_i32_0 : BitVec 32 := 1#32
  let v3 : BitVec 1 := Scalar.cmpi .eq v2 c1_i32_0
  let c2_i32 : BitVec 32 := 2#32
  let c4_i32 : BitVec 32 := 4#32
  let v4 : BitVec 32 := Scalar.select v3 c2_i32 c4_i32
  let v6 : BitVec 32 := Scalar.select v5 c6_i32 v4
  let v8 : BitVec 32 := Scalar.select v7 c0_i32 v6
  let v10 : BitVec 32 := Scalar.select v9 c8_i32 v8
  let v12 : BitVec 32 := Scalar.select v11 c1_i32_3 v10
  let v14 : BitVec 32 := Scalar.select v13 c10_i32 v12
  let v16 : BitVec 32 := Scalar.select v15 c3_i32_5 v14
  let v18 : BitVec 32 := Scalar.select v17 c12_i32 v16
  let v20 : BitVec 32 := Scalar.select v19 c5_i32_7 v18
  let v22 : BitVec 32 := Scalar.select v21 c14_i32 v20
  let v24 : BitVec 32 := Scalar.select v23 c7_i32_9 v22
  let v26 : BitVec 32 := Scalar.select v25 c13_i32 v24
  let v28 : BitVec 32 := Scalar.select v27 c9_i32_12 v26
  let v30 : BitVec 32 := Scalar.select v29 c15_i32 v28
  let v32 : BitVec 32 := Scalar.select v31 c11_i32_15 v30
  let c1_i32_278 : BitVec 32 := 1#32
  let v329 : BitVec 32 := Scalar.muli v32 c1_i32_278
  let v330 : BitVec 32 := Scalar.addi c0_i32_279 v329
  v330.toNat
def k0_dev14 (d0 : Dev nD) : Nat :=
  let c0_i32_309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c3_i32_18 : BitVec 32 := 3#32
  let v34 : BitVec 32 := Scalar.select v33 c5_i32_17 c3_i32_18
  let v36 : BitVec 32 := Scalar.select v35 c1_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c10_i32_44 v58
  let v62 : BitVec 32 := Scalar.select v61 c14_i32_46 v60
  let c1_i32_308 : BitVec 32 := 1#32
  let v371 : BitVec 32 := Scalar.muli v62 c1_i32_308
  let v372 : BitVec 32 := Scalar.addi c0_i32_309 v371
  v372.toNat
def k0_dev15 (d0 : Dev nD) : Nat :=
  let c0_i32_333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_11 : BitVec 32 := 13#32
  let v27 : BitVec 1 := Scalar.cmpi .eq v2 c13_i32_11
  let c9_i32_12 : BitVec 32 := 9#32
  let c12_i32_10 : BitVec 32 := 12#32
  let v25 : BitVec 1 := Scalar.cmpi .eq v2 c12_i32_10
  let c13_i32 : BitVec 32 := 13#32
  let c11_i32 : BitVec 32 := 11#32
  let v23 : BitVec 1 := Scalar.cmpi .eq v2 c11_i32
  let c7_i32_9 : BitVec 32 := 7#32
  let c10_i32_8 : BitVec 32 := 10#32
  let v21 : BitVec 1 := Scalar.cmpi .eq v2 c10_i32_8
  let c14_i32 : BitVec 32 := 14#32
  let c9_i32 : BitVec 32 := 9#32
  let v19 : BitVec 1 := Scalar.cmpi .eq v2 c9_i32
  let c5_i32_7 : BitVec 32 := 5#32
  let c8_i32_6 : BitVec 32 := 8#32
  let v17 : BitVec 1 := Scalar.cmpi .eq v2 c8_i32_6
  let c12_i32 : BitVec 32 := 12#32
  let c7_i32 : BitVec 32 := 7#32
  let v15 : BitVec 1 := Scalar.cmpi .eq v2 c7_i32
  let c3_i32_5 : BitVec 32 := 3#32
  let c6_i32_4 : BitVec 32 := 6#32
  let v13 : BitVec 1 := Scalar.cmpi .eq v2 c6_i32_4
  let c10_i32 : BitVec 32 := 10#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c8_i32 : BitVec 32 := 8#32
  let c3_i32 : BitVec 32 := 3#32
  let v7 : BitVec 1 := Scalar.cmpi .eq v2 c3_i32
  let c0_i32 : BitVec 32 := 0#32
  let c2_i32_1 : BitVec 32 := 2#32
  let v5 : BitVec 1 := Scalar.cmpi .eq v2 c2_i32_1
  let c6_i32 : BitVec 32 := 6#32
  let c1_i32_0 : BitVec 32 := 1#32
  let v3 : BitVec 1 := Scalar.cmpi .eq v2 c1_i32_0
  let c2_i32 : BitVec 32 := 2#32
  let c4_i32 : BitVec 32 := 4#32
  let v4 : BitVec 32 := Scalar.select v3 c2_i32 c4_i32
  let v6 : BitVec 32 := Scalar.select v5 c6_i32 v4
  let v8 : BitVec 32 := Scalar.select v7 c0_i32 v6
  let v10 : BitVec 32 := Scalar.select v9 c8_i32 v8
  let v12 : BitVec 32 := Scalar.select v11 c1_i32_3 v10
  let v14 : BitVec 32 := Scalar.select v13 c10_i32 v12
  let v16 : BitVec 32 := Scalar.select v15 c3_i32_5 v14
  let v18 : BitVec 32 := Scalar.select v17 c12_i32 v16
  let v20 : BitVec 32 := Scalar.select v19 c5_i32_7 v18
  let v22 : BitVec 32 := Scalar.select v21 c14_i32 v20
  let v24 : BitVec 32 := Scalar.select v23 c7_i32_9 v22
  let v26 : BitVec 32 := Scalar.select v25 c13_i32 v24
  let v28 : BitVec 32 := Scalar.select v27 c9_i32_12 v26
  let v30 : BitVec 32 := Scalar.select v29 c15_i32 v28
  let v32 : BitVec 32 := Scalar.select v31 c11_i32_15 v30
  let c1_i32_332 : BitVec 32 := 1#32
  let v395 : BitVec 32 := Scalar.muli v32 c1_i32_332
  let v396 : BitVec 32 := Scalar.addi c0_i32_333 v395
  v396.toNat
def k0_dev16 (d0 : Dev nD) : Nat :=
  let c0_i32_353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c3_i32_18 : BitVec 32 := 3#32
  let v34 : BitVec 32 := Scalar.select v33 c5_i32_17 c3_i32_18
  let v36 : BitVec 32 := Scalar.select v35 c1_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c10_i32_44 v58
  let v62 : BitVec 32 := Scalar.select v61 c14_i32_46 v60
  let c1_i32_352 : BitVec 32 := 1#32
  let v413 : BitVec 32 := Scalar.muli v62 c1_i32_352
  let v414 : BitVec 32 := Scalar.addi c0_i32_353 v413
  v414.toNat
def k0_dev17 (d0 : Dev nD) : Nat :=
  let c0_i32_379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_11 : BitVec 32 := 13#32
  let v27 : BitVec 1 := Scalar.cmpi .eq v2 c13_i32_11
  let c9_i32_12 : BitVec 32 := 9#32
  let c12_i32_10 : BitVec 32 := 12#32
  let v25 : BitVec 1 := Scalar.cmpi .eq v2 c12_i32_10
  let c13_i32 : BitVec 32 := 13#32
  let c11_i32 : BitVec 32 := 11#32
  let v23 : BitVec 1 := Scalar.cmpi .eq v2 c11_i32
  let c7_i32_9 : BitVec 32 := 7#32
  let c10_i32_8 : BitVec 32 := 10#32
  let v21 : BitVec 1 := Scalar.cmpi .eq v2 c10_i32_8
  let c14_i32 : BitVec 32 := 14#32
  let c9_i32 : BitVec 32 := 9#32
  let v19 : BitVec 1 := Scalar.cmpi .eq v2 c9_i32
  let c5_i32_7 : BitVec 32 := 5#32
  let c8_i32_6 : BitVec 32 := 8#32
  let v17 : BitVec 1 := Scalar.cmpi .eq v2 c8_i32_6
  let c12_i32 : BitVec 32 := 12#32
  let c7_i32 : BitVec 32 := 7#32
  let v15 : BitVec 1 := Scalar.cmpi .eq v2 c7_i32
  let c3_i32_5 : BitVec 32 := 3#32
  let c6_i32_4 : BitVec 32 := 6#32
  let v13 : BitVec 1 := Scalar.cmpi .eq v2 c6_i32_4
  let c10_i32 : BitVec 32 := 10#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c8_i32 : BitVec 32 := 8#32
  let c3_i32 : BitVec 32 := 3#32
  let v7 : BitVec 1 := Scalar.cmpi .eq v2 c3_i32
  let c0_i32 : BitVec 32 := 0#32
  let c2_i32_1 : BitVec 32 := 2#32
  let v5 : BitVec 1 := Scalar.cmpi .eq v2 c2_i32_1
  let c6_i32 : BitVec 32 := 6#32
  let c1_i32_0 : BitVec 32 := 1#32
  let v3 : BitVec 1 := Scalar.cmpi .eq v2 c1_i32_0
  let c2_i32 : BitVec 32 := 2#32
  let c4_i32 : BitVec 32 := 4#32
  let v4 : BitVec 32 := Scalar.select v3 c2_i32 c4_i32
  let v6 : BitVec 32 := Scalar.select v5 c6_i32 v4
  let v8 : BitVec 32 := Scalar.select v7 c0_i32 v6
  let v10 : BitVec 32 := Scalar.select v9 c8_i32 v8
  let v12 : BitVec 32 := Scalar.select v11 c1_i32_3 v10
  let v14 : BitVec 32 := Scalar.select v13 c10_i32 v12
  let v16 : BitVec 32 := Scalar.select v15 c3_i32_5 v14
  let v18 : BitVec 32 := Scalar.select v17 c12_i32 v16
  let v20 : BitVec 32 := Scalar.select v19 c5_i32_7 v18
  let v22 : BitVec 32 := Scalar.select v21 c14_i32 v20
  let v24 : BitVec 32 := Scalar.select v23 c7_i32_9 v22
  let v26 : BitVec 32 := Scalar.select v25 c13_i32 v24
  let v28 : BitVec 32 := Scalar.select v27 c9_i32_12 v26
  let v30 : BitVec 32 := Scalar.select v29 c15_i32 v28
  let v32 : BitVec 32 := Scalar.select v31 c11_i32_15 v30
  let c1_i32_378 : BitVec 32 := 1#32
  let v449 : BitVec 32 := Scalar.muli v32 c1_i32_378
  let v450 : BitVec 32 := Scalar.addi c0_i32_379 v449
  v450.toNat
def k0_dev18 (d0 : Dev nD) : Nat :=
  let c0_i32_409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c3_i32_18 : BitVec 32 := 3#32
  let v34 : BitVec 32 := Scalar.select v33 c5_i32_17 c3_i32_18
  let v36 : BitVec 32 := Scalar.select v35 c1_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c10_i32_44 v58
  let v62 : BitVec 32 := Scalar.select v61 c14_i32_46 v60
  let c1_i32_408 : BitVec 32 := 1#32
  let v491 : BitVec 32 := Scalar.muli v62 c1_i32_408
  let v492 : BitVec 32 := Scalar.addi c0_i32_409 v491
  v492.toNat
def k0_dev19 (d0 : Dev nD) : Nat :=
  let c0_i32_433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_11 : BitVec 32 := 13#32
  let v27 : BitVec 1 := Scalar.cmpi .eq v2 c13_i32_11
  let c9_i32_12 : BitVec 32 := 9#32
  let c12_i32_10 : BitVec 32 := 12#32
  let v25 : BitVec 1 := Scalar.cmpi .eq v2 c12_i32_10
  let c13_i32 : BitVec 32 := 13#32
  let c11_i32 : BitVec 32 := 11#32
  let v23 : BitVec 1 := Scalar.cmpi .eq v2 c11_i32
  let c7_i32_9 : BitVec 32 := 7#32
  let c10_i32_8 : BitVec 32 := 10#32
  let v21 : BitVec 1 := Scalar.cmpi .eq v2 c10_i32_8
  let c14_i32 : BitVec 32 := 14#32
  let c9_i32 : BitVec 32 := 9#32
  let v19 : BitVec 1 := Scalar.cmpi .eq v2 c9_i32
  let c5_i32_7 : BitVec 32 := 5#32
  let c8_i32_6 : BitVec 32 := 8#32
  let v17 : BitVec 1 := Scalar.cmpi .eq v2 c8_i32_6
  let c12_i32 : BitVec 32 := 12#32
  let c7_i32 : BitVec 32 := 7#32
  let v15 : BitVec 1 := Scalar.cmpi .eq v2 c7_i32
  let c3_i32_5 : BitVec 32 := 3#32
  let c6_i32_4 : BitVec 32 := 6#32
  let v13 : BitVec 1 := Scalar.cmpi .eq v2 c6_i32_4
  let c10_i32 : BitVec 32 := 10#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c8_i32 : BitVec 32 := 8#32
  let c3_i32 : BitVec 32 := 3#32
  let v7 : BitVec 1 := Scalar.cmpi .eq v2 c3_i32
  let c0_i32 : BitVec 32 := 0#32
  let c2_i32_1 : BitVec 32 := 2#32
  let v5 : BitVec 1 := Scalar.cmpi .eq v2 c2_i32_1
  let c6_i32 : BitVec 32 := 6#32
  let c1_i32_0 : BitVec 32 := 1#32
  let v3 : BitVec 1 := Scalar.cmpi .eq v2 c1_i32_0
  let c2_i32 : BitVec 32 := 2#32
  let c4_i32 : BitVec 32 := 4#32
  let v4 : BitVec 32 := Scalar.select v3 c2_i32 c4_i32
  let v6 : BitVec 32 := Scalar.select v5 c6_i32 v4
  let v8 : BitVec 32 := Scalar.select v7 c0_i32 v6
  let v10 : BitVec 32 := Scalar.select v9 c8_i32 v8
  let v12 : BitVec 32 := Scalar.select v11 c1_i32_3 v10
  let v14 : BitVec 32 := Scalar.select v13 c10_i32 v12
  let v16 : BitVec 32 := Scalar.select v15 c3_i32_5 v14
  let v18 : BitVec 32 := Scalar.select v17 c12_i32 v16
  let v20 : BitVec 32 := Scalar.select v19 c5_i32_7 v18
  let v22 : BitVec 32 := Scalar.select v21 c14_i32 v20
  let v24 : BitVec 32 := Scalar.select v23 c7_i32_9 v22
  let v26 : BitVec 32 := Scalar.select v25 c13_i32 v24
  let v28 : BitVec 32 := Scalar.select v27 c9_i32_12 v26
  let v30 : BitVec 32 := Scalar.select v29 c15_i32 v28
  let v32 : BitVec 32 := Scalar.select v31 c11_i32_15 v30
  let c1_i32_432 : BitVec 32 := 1#32
  let v515 : BitVec 32 := Scalar.muli v32 c1_i32_432
  let v516 : BitVec 32 := Scalar.addi c0_i32_433 v515
  v516.toNat
def k0_dev20 (d0 : Dev nD) : Nat :=
  let c0_i32_452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c3_i32_18 : BitVec 32 := 3#32
  let v34 : BitVec 32 := Scalar.select v33 c5_i32_17 c3_i32_18
  let v36 : BitVec 32 := Scalar.select v35 c1_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c10_i32_44 v58
  let v62 : BitVec 32 := Scalar.select v61 c14_i32_46 v60
  let c1_i32_451 : BitVec 32 := 1#32
  let v533 : BitVec 32 := Scalar.muli v62 c1_i32_451
  let v534 : BitVec 32 := Scalar.addi c0_i32_452 v533
  v534.toNat
def k0_dev21 (d0 : Dev nD) : Nat :=
  let c0_i32_477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_11 : BitVec 32 := 13#32
  let v27 : BitVec 1 := Scalar.cmpi .eq v2 c13_i32_11
  let c9_i32_12 : BitVec 32 := 9#32
  let c12_i32_10 : BitVec 32 := 12#32
  let v25 : BitVec 1 := Scalar.cmpi .eq v2 c12_i32_10
  let c13_i32 : BitVec 32 := 13#32
  let c11_i32 : BitVec 32 := 11#32
  let v23 : BitVec 1 := Scalar.cmpi .eq v2 c11_i32
  let c7_i32_9 : BitVec 32 := 7#32
  let c10_i32_8 : BitVec 32 := 10#32
  let v21 : BitVec 1 := Scalar.cmpi .eq v2 c10_i32_8
  let c14_i32 : BitVec 32 := 14#32
  let c9_i32 : BitVec 32 := 9#32
  let v19 : BitVec 1 := Scalar.cmpi .eq v2 c9_i32
  let c5_i32_7 : BitVec 32 := 5#32
  let c8_i32_6 : BitVec 32 := 8#32
  let v17 : BitVec 1 := Scalar.cmpi .eq v2 c8_i32_6
  let c12_i32 : BitVec 32 := 12#32
  let c7_i32 : BitVec 32 := 7#32
  let v15 : BitVec 1 := Scalar.cmpi .eq v2 c7_i32
  let c3_i32_5 : BitVec 32 := 3#32
  let c6_i32_4 : BitVec 32 := 6#32
  let v13 : BitVec 1 := Scalar.cmpi .eq v2 c6_i32_4
  let c10_i32 : BitVec 32 := 10#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c8_i32 : BitVec 32 := 8#32
  let c3_i32 : BitVec 32 := 3#32
  let v7 : BitVec 1 := Scalar.cmpi .eq v2 c3_i32
  let c0_i32 : BitVec 32 := 0#32
  let c2_i32_1 : BitVec 32 := 2#32
  let v5 : BitVec 1 := Scalar.cmpi .eq v2 c2_i32_1
  let c6_i32 : BitVec 32 := 6#32
  let c1_i32_0 : BitVec 32 := 1#32
  let v3 : BitVec 1 := Scalar.cmpi .eq v2 c1_i32_0
  let c2_i32 : BitVec 32 := 2#32
  let c4_i32 : BitVec 32 := 4#32
  let v4 : BitVec 32 := Scalar.select v3 c2_i32 c4_i32
  let v6 : BitVec 32 := Scalar.select v5 c6_i32 v4
  let v8 : BitVec 32 := Scalar.select v7 c0_i32 v6
  let v10 : BitVec 32 := Scalar.select v9 c8_i32 v8
  let v12 : BitVec 32 := Scalar.select v11 c1_i32_3 v10
  let v14 : BitVec 32 := Scalar.select v13 c10_i32 v12
  let v16 : BitVec 32 := Scalar.select v15 c3_i32_5 v14
  let v18 : BitVec 32 := Scalar.select v17 c12_i32 v16
  let v20 : BitVec 32 := Scalar.select v19 c5_i32_7 v18
  let v22 : BitVec 32 := Scalar.select v21 c14_i32 v20
  let v24 : BitVec 32 := Scalar.select v23 c7_i32_9 v22
  let v26 : BitVec 32 := Scalar.select v25 c13_i32 v24
  let v28 : BitVec 32 := Scalar.select v27 c9_i32_12 v26
  let v30 : BitVec 32 := Scalar.select v29 c15_i32 v28
  let v32 : BitVec 32 := Scalar.select v31 c11_i32_15 v30
  let c1_i32_476 : BitVec 32 := 1#32
  let v569 : BitVec 32 := Scalar.muli v32 c1_i32_476
  let v570 : BitVec 32 := Scalar.addi c0_i32_477 v569
  v570.toNat
def k0_dev22 (d0 : Dev nD) : Nat :=
  let c0_i32_506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c3_i32_18 : BitVec 32 := 3#32
  let v34 : BitVec 32 := Scalar.select v33 c5_i32_17 c3_i32_18
  let v36 : BitVec 32 := Scalar.select v35 c1_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c10_i32_44 v58
  let v62 : BitVec 32 := Scalar.select v61 c14_i32_46 v60
  let c1_i32_505 : BitVec 32 := 1#32
  let v611 : BitVec 32 := Scalar.muli v62 c1_i32_505
  let v612 : BitVec 32 := Scalar.addi c0_i32_506 v611
  v612.toNat
def k0_dev23 (d0 : Dev nD) : Nat :=
  let c0_i32_529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_11 : BitVec 32 := 13#32
  let v27 : BitVec 1 := Scalar.cmpi .eq v2 c13_i32_11
  let c9_i32_12 : BitVec 32 := 9#32
  let c12_i32_10 : BitVec 32 := 12#32
  let v25 : BitVec 1 := Scalar.cmpi .eq v2 c12_i32_10
  let c13_i32 : BitVec 32 := 13#32
  let c11_i32 : BitVec 32 := 11#32
  let v23 : BitVec 1 := Scalar.cmpi .eq v2 c11_i32
  let c7_i32_9 : BitVec 32 := 7#32
  let c10_i32_8 : BitVec 32 := 10#32
  let v21 : BitVec 1 := Scalar.cmpi .eq v2 c10_i32_8
  let c14_i32 : BitVec 32 := 14#32
  let c9_i32 : BitVec 32 := 9#32
  let v19 : BitVec 1 := Scalar.cmpi .eq v2 c9_i32
  let c5_i32_7 : BitVec 32 := 5#32
  let c8_i32_6 : BitVec 32 := 8#32
  let v17 : BitVec 1 := Scalar.cmpi .eq v2 c8_i32_6
  let c12_i32 : BitVec 32 := 12#32
  let c7_i32 : BitVec 32 := 7#32
  let v15 : BitVec 1 := Scalar.cmpi .eq v2 c7_i32
  let c3_i32_5 : BitVec 32 := 3#32
  let c6_i32_4 : BitVec 32 := 6#32
  let v13 : BitVec 1 := Scalar.cmpi .eq v2 c6_i32_4
  let c10_i32 : BitVec 32 := 10#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c8_i32 : BitVec 32 := 8#32
  let c3_i32 : BitVec 32 := 3#32
  let v7 : BitVec 1 := Scalar.cmpi .eq v2 c3_i32
  let c0_i32 : BitVec 32 := 0#32
  let c2_i32_1 : BitVec 32 := 2#32
  let v5 : BitVec 1 := Scalar.cmpi .eq v2 c2_i32_1
  let c6_i32 : BitVec 32 := 6#32
  let c1_i32_0 : BitVec 32 := 1#32
  let v3 : BitVec 1 := Scalar.cmpi .eq v2 c1_i32_0
  let c2_i32 : BitVec 32 := 2#32
  let c4_i32 : BitVec 32 := 4#32
  let v4 : BitVec 32 := Scalar.select v3 c2_i32 c4_i32
  let v6 : BitVec 32 := Scalar.select v5 c6_i32 v4
  let v8 : BitVec 32 := Scalar.select v7 c0_i32 v6
  let v10 : BitVec 32 := Scalar.select v9 c8_i32 v8
  let v12 : BitVec 32 := Scalar.select v11 c1_i32_3 v10
  let v14 : BitVec 32 := Scalar.select v13 c10_i32 v12
  let v16 : BitVec 32 := Scalar.select v15 c3_i32_5 v14
  let v18 : BitVec 32 := Scalar.select v17 c12_i32 v16
  let v20 : BitVec 32 := Scalar.select v19 c5_i32_7 v18
  let v22 : BitVec 32 := Scalar.select v21 c14_i32 v20
  let v24 : BitVec 32 := Scalar.select v23 c7_i32_9 v22
  let v26 : BitVec 32 := Scalar.select v25 c13_i32 v24
  let v28 : BitVec 32 := Scalar.select v27 c9_i32_12 v26
  let v30 : BitVec 32 := Scalar.select v29 c15_i32 v28
  let v32 : BitVec 32 := Scalar.select v31 c11_i32_15 v30
  let c1_i32_528 : BitVec 32 := 1#32
  let v635 : BitVec 32 := Scalar.muli v32 c1_i32_528
  let v636 : BitVec 32 := Scalar.addi c0_i32_529 v635
  v636.toNat
def k0_dev24 (d0 : Dev nD) : Nat :=
  let c0_i32_548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c3_i32_18 : BitVec 32 := 3#32
  let v34 : BitVec 32 := Scalar.select v33 c5_i32_17 c3_i32_18
  let v36 : BitVec 32 := Scalar.select v35 c1_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c10_i32_44 v58
  let v62 : BitVec 32 := Scalar.select v61 c14_i32_46 v60
  let c1_i32_547 : BitVec 32 := 1#32
  let v653 : BitVec 32 := Scalar.muli v62 c1_i32_547
  let v654 : BitVec 32 := Scalar.addi c0_i32_548 v653
  v654.toNat
def k0_dev25 (d0 : Dev nD) : Nat :=
  let c0_i32_573 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_11 : BitVec 32 := 13#32
  let v27 : BitVec 1 := Scalar.cmpi .eq v2 c13_i32_11
  let c9_i32_12 : BitVec 32 := 9#32
  let c12_i32_10 : BitVec 32 := 12#32
  let v25 : BitVec 1 := Scalar.cmpi .eq v2 c12_i32_10
  let c13_i32 : BitVec 32 := 13#32
  let c11_i32 : BitVec 32 := 11#32
  let v23 : BitVec 1 := Scalar.cmpi .eq v2 c11_i32
  let c7_i32_9 : BitVec 32 := 7#32
  let c10_i32_8 : BitVec 32 := 10#32
  let v21 : BitVec 1 := Scalar.cmpi .eq v2 c10_i32_8
  let c14_i32 : BitVec 32 := 14#32
  let c9_i32 : BitVec 32 := 9#32
  let v19 : BitVec 1 := Scalar.cmpi .eq v2 c9_i32
  let c5_i32_7 : BitVec 32 := 5#32
  let c8_i32_6 : BitVec 32 := 8#32
  let v17 : BitVec 1 := Scalar.cmpi .eq v2 c8_i32_6
  let c12_i32 : BitVec 32 := 12#32
  let c7_i32 : BitVec 32 := 7#32
  let v15 : BitVec 1 := Scalar.cmpi .eq v2 c7_i32
  let c3_i32_5 : BitVec 32 := 3#32
  let c6_i32_4 : BitVec 32 := 6#32
  let v13 : BitVec 1 := Scalar.cmpi .eq v2 c6_i32_4
  let c10_i32 : BitVec 32 := 10#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c8_i32 : BitVec 32 := 8#32
  let c3_i32 : BitVec 32 := 3#32
  let v7 : BitVec 1 := Scalar.cmpi .eq v2 c3_i32
  let c0_i32 : BitVec 32 := 0#32
  let c2_i32_1 : BitVec 32 := 2#32
  let v5 : BitVec 1 := Scalar.cmpi .eq v2 c2_i32_1
  let c6_i32 : BitVec 32 := 6#32
  let c1_i32_0 : BitVec 32 := 1#32
  let v3 : BitVec 1 := Scalar.cmpi .eq v2 c1_i32_0
  let c2_i32 : BitVec 32 := 2#32
  let c4_i32 : BitVec 32 := 4#32
  let v4 : BitVec 32 := Scalar.select v3 c2_i32 c4_i32
  let v6 : BitVec 32 := Scalar.select v5 c6_i32 v4
  let v8 : BitVec 32 := Scalar.select v7 c0_i32 v6
  let v10 : BitVec 32 := Scalar.select v9 c8_i32 v8
  let v12 : BitVec 32 := Scalar.select v11 c1_i32_3 v10
  let v14 : BitVec 32 := Scalar.select v13 c10_i32 v12
  let v16 : BitVec 32 := Scalar.select v15 c3_i32_5 v14
  let v18 : BitVec 32 := Scalar.select v17 c12_i32 v16
  let v20 : BitVec 32 := Scalar.select v19 c5_i32_7 v18
  let v22 : BitVec 32 := Scalar.select v21 c14_i32 v20
  let v24 : BitVec 32 := Scalar.select v23 c7_i32_9 v22
  let v26 : BitVec 32 := Scalar.select v25 c13_i32 v24
  let v28 : BitVec 32 := Scalar.select v27 c9_i32_12 v26
  let v30 : BitVec 32 := Scalar.select v29 c15_i32 v28
  let v32 : BitVec 32 := Scalar.select v31 c11_i32_15 v30
  let c1_i32_572 : BitVec 32 := 1#32
  let v689 : BitVec 32 := Scalar.muli v32 c1_i32_572
  let v690 : BitVec 32 := Scalar.addi c0_i32_573 v689
  v690.toNat
def k0_dev26 (d0 : Dev nD) : Nat :=
  let c0_i32_602 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c3_i32_18 : BitVec 32 := 3#32
  let v34 : BitVec 32 := Scalar.select v33 c5_i32_17 c3_i32_18
  let v36 : BitVec 32 := Scalar.select v35 c1_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c10_i32_44 v58
  let v62 : BitVec 32 := Scalar.select v61 c14_i32_46 v60
  let c1_i32_601 : BitVec 32 := 1#32
  let v731 : BitVec 32 := Scalar.muli v62 c1_i32_601
  let v732 : BitVec 32 := Scalar.addi c0_i32_602 v731
  v732.toNat
def k0_dev27 (d0 : Dev nD) : Nat :=
  let c0_i32_625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_11 : BitVec 32 := 13#32
  let v27 : BitVec 1 := Scalar.cmpi .eq v2 c13_i32_11
  let c9_i32_12 : BitVec 32 := 9#32
  let c12_i32_10 : BitVec 32 := 12#32
  let v25 : BitVec 1 := Scalar.cmpi .eq v2 c12_i32_10
  let c13_i32 : BitVec 32 := 13#32
  let c11_i32 : BitVec 32 := 11#32
  let v23 : BitVec 1 := Scalar.cmpi .eq v2 c11_i32
  let c7_i32_9 : BitVec 32 := 7#32
  let c10_i32_8 : BitVec 32 := 10#32
  let v21 : BitVec 1 := Scalar.cmpi .eq v2 c10_i32_8
  let c14_i32 : BitVec 32 := 14#32
  let c9_i32 : BitVec 32 := 9#32
  let v19 : BitVec 1 := Scalar.cmpi .eq v2 c9_i32
  let c5_i32_7 : BitVec 32 := 5#32
  let c8_i32_6 : BitVec 32 := 8#32
  let v17 : BitVec 1 := Scalar.cmpi .eq v2 c8_i32_6
  let c12_i32 : BitVec 32 := 12#32
  let c7_i32 : BitVec 32 := 7#32
  let v15 : BitVec 1 := Scalar.cmpi .eq v2 c7_i32
  let c3_i32_5 : BitVec 32 := 3#32
  let c6_i32_4 : BitVec 32 := 6#32
  let v13 : BitVec 1 := Scalar.cmpi .eq v2 c6_i32_4
  let c10_i32 : BitVec 32 := 10#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c8_i32 : BitVec 32 := 8#32
  let c3_i32 : BitVec 32 := 3#32
  let v7 : BitVec 1 := Scalar.cmpi .eq v2 c3_i32
  let c0_i32 : BitVec 32 := 0#32
  let c2_i32_1 : BitVec 32 := 2#32
  let v5 : BitVec 1 := Scalar.cmpi .eq v2 c2_i32_1
  let c6_i32 : BitVec 32 := 6#32
  let c1_i32_0 : BitVec 32 := 1#32
  let v3 : BitVec 1 := Scalar.cmpi .eq v2 c1_i32_0
  let c2_i32 : BitVec 32 := 2#32
  let c4_i32 : BitVec 32 := 4#32
  let v4 : BitVec 32 := Scalar.select v3 c2_i32 c4_i32
  let v6 : BitVec 32 := Scalar.select v5 c6_i32 v4
  let v8 : BitVec 32 := Scalar.select v7 c0_i32 v6
  let v10 : BitVec 32 := Scalar.select v9 c8_i32 v8
  let v12 : BitVec 32 := Scalar.select v11 c1_i32_3 v10
  let v14 : BitVec 32 := Scalar.select v13 c10_i32 v12
  let v16 : BitVec 32 := Scalar.select v15 c3_i32_5 v14
  let v18 : BitVec 32 := Scalar.select v17 c12_i32 v16
  let v20 : BitVec 32 := Scalar.select v19 c5_i32_7 v18
  let v22 : BitVec 32 := Scalar.select v21 c14_i32 v20
  let v24 : BitVec 32 := Scalar.select v23 c7_i32_9 v22
  let v26 : BitVec 32 := Scalar.select v25 c13_i32 v24
  let v28 : BitVec 32 := Scalar.select v27 c9_i32_12 v26
  let v30 : BitVec 32 := Scalar.select v29 c15_i32 v28
  let v32 : BitVec 32 := Scalar.select v31 c11_i32_15 v30
  let c1_i32_624 : BitVec 32 := 1#32
  let v755 : BitVec 32 := Scalar.muli v32 c1_i32_624
  let v756 : BitVec 32 := Scalar.addi c0_i32_625 v755
  v756.toNat
def k0_dev28 (d0 : Dev nD) : Nat :=
  let c0_i32_644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c3_i32_18 : BitVec 32 := 3#32
  let v34 : BitVec 32 := Scalar.select v33 c5_i32_17 c3_i32_18
  let v36 : BitVec 32 := Scalar.select v35 c1_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c10_i32_44 v58
  let v62 : BitVec 32 := Scalar.select v61 c14_i32_46 v60
  let c1_i32_643 : BitVec 32 := 1#32
  let v773 : BitVec 32 := Scalar.muli v62 c1_i32_643
  let v774 : BitVec 32 := Scalar.addi c0_i32_644 v773
  v774.toNat
def k0_dev29 (d0 : Dev nD) : Nat :=
  let c0_i32_669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_11 : BitVec 32 := 13#32
  let v27 : BitVec 1 := Scalar.cmpi .eq v2 c13_i32_11
  let c9_i32_12 : BitVec 32 := 9#32
  let c12_i32_10 : BitVec 32 := 12#32
  let v25 : BitVec 1 := Scalar.cmpi .eq v2 c12_i32_10
  let c13_i32 : BitVec 32 := 13#32
  let c11_i32 : BitVec 32 := 11#32
  let v23 : BitVec 1 := Scalar.cmpi .eq v2 c11_i32
  let c7_i32_9 : BitVec 32 := 7#32
  let c10_i32_8 : BitVec 32 := 10#32
  let v21 : BitVec 1 := Scalar.cmpi .eq v2 c10_i32_8
  let c14_i32 : BitVec 32 := 14#32
  let c9_i32 : BitVec 32 := 9#32
  let v19 : BitVec 1 := Scalar.cmpi .eq v2 c9_i32
  let c5_i32_7 : BitVec 32 := 5#32
  let c8_i32_6 : BitVec 32 := 8#32
  let v17 : BitVec 1 := Scalar.cmpi .eq v2 c8_i32_6
  let c12_i32 : BitVec 32 := 12#32
  let c7_i32 : BitVec 32 := 7#32
  let v15 : BitVec 1 := Scalar.cmpi .eq v2 c7_i32
  let c3_i32_5 : BitVec 32 := 3#32
  let c6_i32_4 : BitVec 32 := 6#32
  let v13 : BitVec 1 := Scalar.cmpi .eq v2 c6_i32_4
  let c10_i32 : BitVec 32 := 10#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c8_i32 : BitVec 32 := 8#32
  let c3_i32 : BitVec 32 := 3#32
  let v7 : BitVec 1 := Scalar.cmpi .eq v2 c3_i32
  let c0_i32 : BitVec 32 := 0#32
  let c2_i32_1 : BitVec 32 := 2#32
  let v5 : BitVec 1 := Scalar.cmpi .eq v2 c2_i32_1
  let c6_i32 : BitVec 32 := 6#32
  let c1_i32_0 : BitVec 32 := 1#32
  let v3 : BitVec 1 := Scalar.cmpi .eq v2 c1_i32_0
  let c2_i32 : BitVec 32 := 2#32
  let c4_i32 : BitVec 32 := 4#32
  let v4 : BitVec 32 := Scalar.select v3 c2_i32 c4_i32
  let v6 : BitVec 32 := Scalar.select v5 c6_i32 v4
  let v8 : BitVec 32 := Scalar.select v7 c0_i32 v6
  let v10 : BitVec 32 := Scalar.select v9 c8_i32 v8
  let v12 : BitVec 32 := Scalar.select v11 c1_i32_3 v10
  let v14 : BitVec 32 := Scalar.select v13 c10_i32 v12
  let v16 : BitVec 32 := Scalar.select v15 c3_i32_5 v14
  let v18 : BitVec 32 := Scalar.select v17 c12_i32 v16
  let v20 : BitVec 32 := Scalar.select v19 c5_i32_7 v18
  let v22 : BitVec 32 := Scalar.select v21 c14_i32 v20
  let v24 : BitVec 32 := Scalar.select v23 c7_i32_9 v22
  let v26 : BitVec 32 := Scalar.select v25 c13_i32 v24
  let v28 : BitVec 32 := Scalar.select v27 c9_i32_12 v26
  let v30 : BitVec 32 := Scalar.select v29 c15_i32 v28
  let v32 : BitVec 32 := Scalar.select v31 c11_i32_15 v30
  let c1_i32_668 : BitVec 32 := 1#32
  let v809 : BitVec 32 := Scalar.muli v32 c1_i32_668
  let v810 : BitVec 32 := Scalar.addi c0_i32_669 v809
  v810.toNat
def k0_dev30 (d0 : Dev nD) : Nat :=
  let c0_i32_698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c3_i32_18 : BitVec 32 := 3#32
  let v34 : BitVec 32 := Scalar.select v33 c5_i32_17 c3_i32_18
  let v36 : BitVec 32 := Scalar.select v35 c1_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c10_i32_44 v58
  let v62 : BitVec 32 := Scalar.select v61 c14_i32_46 v60
  let c1_i32_697 : BitVec 32 := 1#32
  let v851 : BitVec 32 := Scalar.muli v62 c1_i32_697
  let v852 : BitVec 32 := Scalar.addi c0_i32_698 v851
  v852.toNat
def k0_dev31 (d0 : Dev nD) : Nat :=
  let c0_i32_721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_11 : BitVec 32 := 13#32
  let v27 : BitVec 1 := Scalar.cmpi .eq v2 c13_i32_11
  let c9_i32_12 : BitVec 32 := 9#32
  let c12_i32_10 : BitVec 32 := 12#32
  let v25 : BitVec 1 := Scalar.cmpi .eq v2 c12_i32_10
  let c13_i32 : BitVec 32 := 13#32
  let c11_i32 : BitVec 32 := 11#32
  let v23 : BitVec 1 := Scalar.cmpi .eq v2 c11_i32
  let c7_i32_9 : BitVec 32 := 7#32
  let c10_i32_8 : BitVec 32 := 10#32
  let v21 : BitVec 1 := Scalar.cmpi .eq v2 c10_i32_8
  let c14_i32 : BitVec 32 := 14#32
  let c9_i32 : BitVec 32 := 9#32
  let v19 : BitVec 1 := Scalar.cmpi .eq v2 c9_i32
  let c5_i32_7 : BitVec 32 := 5#32
  let c8_i32_6 : BitVec 32 := 8#32
  let v17 : BitVec 1 := Scalar.cmpi .eq v2 c8_i32_6
  let c12_i32 : BitVec 32 := 12#32
  let c7_i32 : BitVec 32 := 7#32
  let v15 : BitVec 1 := Scalar.cmpi .eq v2 c7_i32
  let c3_i32_5 : BitVec 32 := 3#32
  let c6_i32_4 : BitVec 32 := 6#32
  let v13 : BitVec 1 := Scalar.cmpi .eq v2 c6_i32_4
  let c10_i32 : BitVec 32 := 10#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c8_i32 : BitVec 32 := 8#32
  let c3_i32 : BitVec 32 := 3#32
  let v7 : BitVec 1 := Scalar.cmpi .eq v2 c3_i32
  let c0_i32 : BitVec 32 := 0#32
  let c2_i32_1 : BitVec 32 := 2#32
  let v5 : BitVec 1 := Scalar.cmpi .eq v2 c2_i32_1
  let c6_i32 : BitVec 32 := 6#32
  let c1_i32_0 : BitVec 32 := 1#32
  let v3 : BitVec 1 := Scalar.cmpi .eq v2 c1_i32_0
  let c2_i32 : BitVec 32 := 2#32
  let c4_i32 : BitVec 32 := 4#32
  let v4 : BitVec 32 := Scalar.select v3 c2_i32 c4_i32
  let v6 : BitVec 32 := Scalar.select v5 c6_i32 v4
  let v8 : BitVec 32 := Scalar.select v7 c0_i32 v6
  let v10 : BitVec 32 := Scalar.select v9 c8_i32 v8
  let v12 : BitVec 32 := Scalar.select v11 c1_i32_3 v10
  let v14 : BitVec 32 := Scalar.select v13 c10_i32 v12
  let v16 : BitVec 32 := Scalar.select v15 c3_i32_5 v14
  let v18 : BitVec 32 := Scalar.select v17 c12_i32 v16
  let v20 : BitVec 32 := Scalar.select v19 c5_i32_7 v18
  let v22 : BitVec 32 := Scalar.select v21 c14_i32 v20
  let v24 : BitVec 32 := Scalar.select v23 c7_i32_9 v22
  let v26 : BitVec 32 := Scalar.select v25 c13_i32 v24
  let v28 : BitVec 32 := Scalar.select v27 c9_i32_12 v26
  let v30 : BitVec 32 := Scalar.select v29 c15_i32 v28
  let v32 : BitVec 32 := Scalar.select v31 c11_i32_15 v30
  let c1_i32_720 : BitVec 32 := 1#32
  let v875 : BitVec 32 := Scalar.muli v32 c1_i32_720
  let v876 : BitVec 32 := Scalar.addi c0_i32_721 v875
  v876.toNat
def k0_dev32 (d0 : Dev nD) : Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_11 : BitVec 32 := 13#32
  let v27 : BitVec 1 := Scalar.cmpi .eq v2 c13_i32_11
  let c9_i32_12 : BitVec 32 := 9#32
  let c12_i32_10 : BitVec 32 := 12#32
  let v25 : BitVec 1 := Scalar.cmpi .eq v2 c12_i32_10
  let c13_i32 : BitVec 32 := 13#32
  let c11_i32 : BitVec 32 := 11#32
  let v23 : BitVec 1 := Scalar.cmpi .eq v2 c11_i32
  let c7_i32_9 : BitVec 32 := 7#32
  let c10_i32_8 : BitVec 32 := 10#32
  let v21 : BitVec 1 := Scalar.cmpi .eq v2 c10_i32_8
  let c14_i32 : BitVec 32 := 14#32
  let c9_i32 : BitVec 32 := 9#32
  let v19 : BitVec 1 := Scalar.cmpi .eq v2 c9_i32
  let c5_i32_7 : BitVec 32 := 5#32
  let c8_i32_6 : BitVec 32 := 8#32
  let v17 : BitVec 1 := Scalar.cmpi .eq v2 c8_i32_6
  let c12_i32 : BitVec 32 := 12#32
  let c7_i32 : BitVec 32 := 7#32
  let v15 : BitVec 1 := Scalar.cmpi .eq v2 c7_i32
  let c3_i32_5 : BitVec 32 := 3#32
  let c6_i32_4 : BitVec 32 := 6#32
  let v13 : BitVec 1 := Scalar.cmpi .eq v2 c6_i32_4
  let c10_i32 : BitVec 32 := 10#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c8_i32 : BitVec 32 := 8#32
  let c3_i32 : BitVec 32 := 3#32
  let v7 : BitVec 1 := Scalar.cmpi .eq v2 c3_i32
  let c0_i32 : BitVec 32 := 0#32
  let c2_i32_1 : BitVec 32 := 2#32
  let v5 : BitVec 1 := Scalar.cmpi .eq v2 c2_i32_1
  let c6_i32 : BitVec 32 := 6#32
  let c1_i32_0 : BitVec 32 := 1#32
  let v3 : BitVec 1 := Scalar.cmpi .eq v2 c1_i32_0
  let c2_i32 : BitVec 32 := 2#32
  let c4_i32 : BitVec 32 := 4#32
  let v4 : BitVec 32 := Scalar.select v3 c2_i32 c4_i32
  let v6 : BitVec 32 := Scalar.select v5 c6_i32 v4
  let v8 : BitVec 32 := Scalar.select v7 c0_i32 v6
  let v10 : BitVec 32 := Scalar.select v9 c8_i32 v8
  let v12 : BitVec 32 := Scalar.select v11 c1_i32_3 v10
  let v14 : BitVec 32 := Scalar.select v13 c10_i32 v12
  let v16 : BitVec 32 := Scalar.select v15 c3_i32_5 v14
  let v18 : BitVec 32 := Scalar.select v17 c12_i32 v16
  let v20 : BitVec 32 := Scalar.select v19 c5_i32_7 v18
  let v22 : BitVec 32 := Scalar.select v21 c14_i32 v20
  let v24 : BitVec 32 := Scalar.select v23 c7_i32_9 v22
  let v26 : BitVec 32 := Scalar.select v25 c13_i32 v24
  let v28 : BitVec 32 := Scalar.select v27 c9_i32_12 v26
  let v30 : BitVec 32 := Scalar.select v29 c15_i32 v28
  let v32 : BitVec 32 := Scalar.select v31 c11_i32_15 v30
  let c1_i32_755 : BitVec 32 := 1#32
  let v919 : BitVec 32 := Scalar.muli v32 c1_i32_755
  let v920 : BitVec 32 := Scalar.addi c0_i32_756 v919
  v920.toNat
abbrev stage0_0 : Fin 1 → Memref sig .tc .vmem S1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "inv_sqrt_d" => some (((Real.sqrt 128)⁻¹ : ℝ) : EReal)
  | _ => none
-- ==== ReferenceIdeal.lean ====
abbrev S16384x128 : Shape := ⟨2, ![16384, 128]⟩
abbrev S128x16384 : Shape := ⟨2, ![128, 16384]⟩
abbrev S16384x16384 : Shape := ⟨2, ![16384, 16384]⟩
abbrev S_ : Shape := ⟨0, ![]⟩
abbrev S16384 : Shape := ⟨1, ![16384]⟩
abbrev S16384x1 : Shape := ⟨2, ![16384, 1]⟩

abbrev nBuf : Space → Nat
  | .hbm => 25
  | .vmem => 0
  | .smem => 0
  | _ => 0

abbrev bufTy : (tb : Table) → Fin (tcTables nBuf tb) → BufTy
  | .hbm, ⟨0, _⟩ => ⟨S16384x128, .bf16⟩
  | .hbm, ⟨1, _⟩ => ⟨S16384x128, .bf16⟩
  | .hbm, ⟨2, _⟩ => ⟨S16384x128, .bf16⟩
  | .hbm, ⟨3, _⟩ => ⟨S16384x128, .f32⟩
  | .hbm, ⟨4, _⟩ => ⟨S16384x128, .f32⟩
  | .hbm, ⟨5, _⟩ => ⟨S16384x128, .f32⟩
  | .hbm, ⟨6, _⟩ => ⟨S128x16384, .f32⟩
  | .hbm, ⟨7, _⟩ => ⟨S16384x16384, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16384x16384, .f32⟩
  | .hbm, ⟨12, _⟩ => ⟨S16384x16384, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x16384, .f32⟩
  | .hbm, ⟨17, _⟩ => ⟨S16384x16384, .f32⟩
  | .hbm, ⟨18, _⟩ => ⟨S16384x16384, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S16384x16384, .f32⟩
  | .hbm, ⟨23, _⟩ => ⟨S16384x16384, .f32⟩
  | .hbm, ⟨24, _⟩ => ⟨S16384x128, .f32⟩
  | _, _ => ⟨S16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Proof.Ring.lean ====
/-
The ring: who is whose neighbour, which transfer moves which slot where, what each slot holds,
and the rounds of duties of the semaphores.

A device numbers its transfers `0 … 29` in the order it starts them. Transfer `n` reads slot
`srcS n` of one of the two scratch buffers and lands in slot `dstS n` of the same buffer of the
neighbour `tgt n`. It completes on a send semaphore of the starting device and on a receive
semaphore of the neighbour.
-/
module

public import proofs.«01_k».proof.Proof.Gen.KernelIdeal.Skeleton
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Neighbours -/

/-- The devices in the order of the ring, each list entry the successor of its position. -/
def nxtL : List ℕ := [4, 2, 6, 0, 8, 1, 10, 3, 12, 5, 14, 7, 13, 9, 15, 11]
/-- The predecessors. -/
def prvL : List ℕ := [3, 5, 1, 7, 0, 9, 2, 11, 4, 13, 6, 15, 8, 12, 10, 14]

set_option backward.proofsInPublic true in
def nxt (c : Dev nD) : Dev nD := ⟨nxtL.getD c.val 0 % 16, Nat.mod_lt _ (by decide)⟩
set_option backward.proofsInPublic true in
def prv (c : Dev nD) : Dev nD := ⟨prvL.getD c.val 0 % 16, Nat.mod_lt _ (by decide)⟩

theorem prv_nxt (c : Dev nD) : prv (nxt c) = c := by revert c; decide
theorem nxt_prv (c : Dev nD) : nxt (prv c) = c := by revert c; decide

/-- The ring as a permutation of the devices. -/
def ring : Dev nD ≃ Dev nD := ⟨nxt, prv, prv_nxt, nxt_prv⟩

/-! ## The transfers -/

/-- Transfer `n` goes to the successor. -/
def right (n : ℕ) : Bool := n % 2 == 0 || n == 29
/-- Transfer `n` moves a block of the second buffer. -/
def isV (n : ℕ) : Bool := n % 4 / 2 == 1 || n == 29
/-- The slot it reads. -/
def srcS (n : ℕ) : ℕ := bif right n then n / 4 else bif n / 4 == 0 then 0 else 8 + n / 4
/-- The slot it lands in. -/
def dstS (n : ℕ) : ℕ := bif right n then n / 4 + 1 else 9 + n / 4
/-- The index of its two semaphores in their arrays. -/
def jx (n : ℕ) : ℕ := 4 * (n / 4) + (bif right n then 0 else 2) + (bif isV n then 1 else 0)
/-- The neighbour it goes to. -/
def tgt (n : ℕ) (c : Dev nD) : Dev nD := bif right n then nxt c else prv c
/-- The neighbour it comes from. -/
def frm (n : ℕ) (c : Dev nD) : Dev nD := bif right n then prv c else nxt c

theorem tgt_frm (n : ℕ) (c : Dev nD) : tgt n (frm n c) = c := by
  unfold tgt frm; cases right n; exacts [prv_nxt c, nxt_prv c]
theorem frm_tgt (n : ℕ) (c : Dev nD) : frm n (tgt n c) = c := by
  unfold tgt frm; cases right n; exacts [nxt_prv c, prv_nxt c]

theorem srcS_lt : ∀ n < 30, srcS n < 16 := by decide
theorem dstS_lt : ∀ n < 30, dstS n < 16 := by decide
theorem jx_lt : ∀ n < 30, jx n < 30 := by decide
theorem jx_jx : ∀ n < 30, jx (jx n) = n := by decide

/-- The device whose block slot `s` of device `c` holds in the end. -/
def orig (c : Dev nD) (s : ℕ) : Dev nD := bif Nat.ble s 8 then prv^[s] c else nxt^[s - 8] c

set_option maxRecDepth 20000 in
theorem orig_tgt : ∀ c : Dev nD, ∀ n < 30, orig (tgt n c) (dstS n) = orig c (srcS n) := by decide +kernel

/-! ## Buffers, slots, semaphores -/

/-- The two scratch buffers. -/
abbrev bM (v : Bool) : Memref sig .tc .vmem S16x1024x128 .bf16 := bif v then Memref.whole cc0_scratch1 else Memref.whole cc0_scratch0

theorem inb_slot (s : ℕ) (h : s < 16) : ∀ a, (![s, 0, 0] : Fin 3 → ℕ) a + S1x1024x128.size a ≤ S16x1024x128.size a := by
  intro a; fin_cases a
  · show s + 1 ≤ 16; omega
  · exact Nat.le_refl 1024
  · exact Nat.le_refl 128

/-- The rectangle of slot `s`. -/
abbrev slotR (s : ℕ) (h : s < 16) : Rect S16x1024x128 := Rect.unit (s := S16x1024x128) ![s, 0, 0] S1x1024x128.size (inb_slot s h)

/-- Slot `s` as a memref. -/
abbrev slotM (v : Bool) (s : ℕ) (h : s < 16) : Memref sig .tc .vmem S1024x128 .bf16 :=
  ((bM v).slice (slotR s h) (fun _ => rfl)).squeeze S1024x128 squeezes_S1x1024x128_S1024x128

set_option backward.proofsInPublic true in
/-- The send semaphore of transfer `n`. -/
abbrev sndS (n : ℕ) : DmaSem sig := ⟨4 + jx n % 32, by show _ < 68; omega⟩
set_option backward.proofsInPublic true in
/-- The receive semaphore of transfer `n`. -/
abbrev rcvS (n : ℕ) : DmaSem sig := ⟨36 + jx n % 32, by show _ < 68; omega⟩
/-- The barrier semaphore. -/
abbrev barS : Sem sig := (SemArray.scalar (sig.barrier 0 rfl) : Sems sig S_).sem

abbrev barCell (c : Dev nD) : GSem nD τ sig := ((c : Thread nD τ), .reg barS)
abbrev sndCell (c : Dev nD) (n : ℕ) : GSem nD τ sig := ((c : Thread nD τ), .dma (sndS n))
abbrev rcvCell (c : Dev nD) (n : ℕ) : GSem nD τ sig := ((c : Thread nD τ), .dma (rcvS n))

/-- The credit of one slot. -/
abbrev N : ℕ := (slotM false 0 (by decide)).view.dmaCredit
theorem N_pos : 0 < N := View.dmaCredit_pos _ (by decide)
theorem credit_slot (v : Bool) (s : ℕ) (h : s < 16) : (slotM v s h).view.dmaCredit = N := by cases v <;> rfl

variable {F : FTy → Type} [FloatOps F] [Named F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Contents -/

/-- A device's three staged operands. -/
def qst (c : Dev nD) : (cc0_stg0_0 : Ref sig .tc).ty.Contents (Elt F) := iblk m c 0 t0_0
def kst (c : Dev nD) : (cc0_stg1_0 : Ref sig .tc).ty.Contents (Elt F) := iblk m c 1 t0_0
def vst (c : Dev nD) : (cc0_stg2_0 : Ref sig .tc).ty.Contents (Elt F) := iblk m c 2 t0_0

/-- The block device `c` contributes to the two buffers, as one slot. -/
def blkOf (v : Bool) (c : Dev nD) : S1x1024x128.Idx → Elt F .bf16 :=
  bif v then k0_pay6 (vst m c) else k0_pay1 (kst m c)

set_option backward.proofsInPublic true in
/-- A multi-index of a buffer, its slot dropped. -/
def tl (i : S16x1024x128.Idx) : S1x1024x128.Idx := fun a => match a with
  | ⟨0, _⟩ => (⟨0, by decide⟩ : Fin 1) | ⟨1, _⟩ => i 1 | ⟨2, _⟩ => i 2

/-- What a buffer of device `c` holds once everything has landed. -/
def full (v : Bool) (c : Dev nD) : S16x1024x128.Idx → Elt F .bf16 :=
  fun i => blkOf m v (orig c (i 0).val) (tl i)

/-- The same, as the buffer's contents. -/
def fullB (v : Bool) (c : Dev nD) : Buf (Elt F) ((bM v).view.loc (c : Thread nD τ)) := match v with
  | false => full m false c
  | true => full m true c

/-- A share of slot `s` at contents `f`. -/
def slotPts (v : Bool) (c : Dev nD) (s : ℕ) (h : s < 16) (q : PosShare TreeShare) (f : Buf (Elt F) ((bM v).view.loc (c : Thread nD τ))) : sProp 𝕄 :=
  (slotM v s h).view.loc (c : Thread nD τ) ↦[(slotM v s h).view.set]{q} f

instance slotPts_storable (v : Bool) (c : Dev nD) (s : ℕ) (h : s < 16) (q) (f) : BI.Storable (upEmb : UEmb _ 𝕄) (slotPts (F := F) v c s h q f) := by
  unfold slotPts; infer_instance

/-- A share of slot `s` at its final contents; nothing for a number that is no slot. -/
def slotAt (v : Bool) (c : Dev nD) (s : ℕ) (q : PosShare TreeShare) : sProp 𝕄 :=
  if h : s < 16 then slotPts v c s h q (fullB m v c) else iprop(emp)
/-- The whole slot `s`, whatever it holds. -/
def slotAny (v : Bool) (c : Dev nD) (s : ℕ) : sProp 𝕄 :=
  if h : s < 16 then iprop(∃ f, slotPts v c s h fullShare f) else iprop(emp)

instance slotAt_storable (v : Bool) (c : Dev nD) (s : ℕ) (q) : BI.Storable (upEmb : UEmb _ 𝕄) (slotAt (F := F) m v c s q) := by
  unfold slotAt; split <;> infer_instance
instance slotAny_storable (v : Bool) (c : Dev nD) (s : ℕ) : BI.Storable (upEmb : UEmb _ 𝕄) (slotAny (F := F) v c s) := by
  unfold slotAny; split <;> infer_instance

/-- The share transfer `n` borrows of the slot it reads: a quarter of an own slot, which two transfers
    read, half of a landed one. -/
def lent (n : ℕ) : PosShare TreeShare :=
  bif Nat.ble 4 n then fullShare.left else bif right n then fullShare.left.left else fullShare.left.right

/-- What transfer `n` of device `c` borrows. -/
def srcPts (c : Dev nD) (n : ℕ) : sProp 𝕄 := slotAt m (isV n) c (srcS n) (lent n)
/-- What transfer `n` leaves with its target `c`. -/
def landPts (c : Dev nD) (n : ℕ) : sProp 𝕄 := slotAt m (isV n) c (dstS n) fullShare
/-- The room transfer `n` of device `c` needs. -/
def roomPts (c : Dev nD) (n : ℕ) : sProp 𝕄 := slotAny (isV n) (tgt n c) (dstS n)
/-- The room for all of a device's transfers in one direction. -/
def barPay (c : Dev nD) (d : Bool) : sProp 𝕄 := bigSep ((Finset.range 30).filter fun n => right n = d) fun n => roomPts c n

instance srcPts_storable (c : Dev nD) (n : ℕ) : BI.Storable (upEmb : UEmb _ 𝕄) (srcPts (F := F) m c n) := by unfold srcPts; infer_instance
instance landPts_storable (c : Dev nD) (n : ℕ) : BI.Storable (upEmb : UEmb _ 𝕄) (landPts (F := F) m c n) := by unfold landPts; infer_instance
instance roomPts_storable (c : Dev nD) (n : ℕ) : BI.Storable (upEmb : UEmb _ 𝕄) (roomPts (F := F) c n) := by unfold roomPts; infer_instance
instance barPay_storable (c : Dev nD) (d : Bool) : BI.Storable (upEmb : UEmb _ 𝕄) (barPay (F := F) c d) := by unfold barPay; infer_instance

/-! ## The rounds

Every semaphore has one round. The barrier's has two duties: `true`, paid by the successor with the
room for the transfers to it, `false`, paid by the predecessor likewise. Each transfer semaphore's
has one, paid by the transfer: a send semaphore's returns what the transfer borrowed, a receive
semaphore's brings the landed slot. -/

/-- The numbers of the transfer semaphores in use. -/
def used (s : ℕ) : Bool := (Nat.ble 4 s && Nat.blt s 34) || (Nat.ble 36 s && Nat.blt s 66)

def rdDuties (sm : SemLoc sig) : Finset Bool := match sm with
  | .reg s => if s = barS then Finset.univ else ∅
  | .dma s => if used s.val = true then {false} else ∅
def rdAmount (sm : SemLoc sig) : ℕ := match sm with
  | .reg _ => 1
  | .dma _ => N
def rdPay (c : Dev nD) (sm : SemLoc sig) (d : Bool) : sProp 𝕄 := match sm with
  | .reg _ => barPay c d
  | .dma s => if s.val < 36 then srcPts m c (jx (s.val - 4)) else landPts m c (jx (s.val - 36))

def ringRd : Rounds.Schedule (GSem nD τ sig) Bool 𝕄 where
  duties g r := if r = 0 ∧ g.1.2 = .tc then rdDuties g.2 else ∅
  unitless _ := False
  amount g _ _ := rdAmount g.2
  payload g _ d := rdPay m g.1.1 g.2 d
  amount_pos g _ _ _ := by
    obtain ⟨t, sm⟩ := g
    cases sm
    · exact Nat.one_pos
    · exact N_pos

instance ringRd_payload_storable (g : GSem nD τ sig) (r : ℕ) (d : Bool) :
    BI.Storable (upEmb : UEmb _ 𝕄) ((ringRd (F := F) m).payload g r d) := by
  obtain ⟨t, sm⟩ := g
  cases sm with
  | reg s => show BI.Storable upEmb (barPay t.1 d); infer_instance
  | dma s =>
    show BI.Storable upEmb (if s.val < 36 then srcPts m t.1 (jx (s.val - 4)) else landPts m t.1 (jx (s.val - 36)))
    split <;> infer_instance

section Sched
variable (c : Dev nD)

theorem duties_zero (sm : SemLoc sig) : (ringRd (F := F) m).duties ((c : Thread nD τ), sm) 0 = rdDuties sm := by
  dsimp only [ringRd]; exact if_pos ⟨rfl, rfl⟩
theorem duties_bar : (ringRd (F := F) m).duties (barCell c) 0 = Finset.univ := by
  rw [duties_zero]; unfold rdDuties; exact if_pos rfl
theorem used_snd : ∀ n < 30, used (sndS n).val = true := by decide
theorem used_rcv : ∀ n < 30, used (rcvS n).val = true := by decide
theorem duties_snd {n : ℕ} (hn : n < 30) : (ringRd (F := F) m).duties (sndCell c n) 0 = {false} := by
  rw [duties_zero]; unfold rdDuties; exact if_pos (used_snd n hn)
theorem duties_rcv {n : ℕ} (hn : n < 30) : (ringRd (F := F) m).duties (rcvCell c n) 0 = {false} := by
  rw [duties_zero]; unfold rdDuties; exact if_pos (used_rcv n hn)
theorem duties_later (g : GSem nD τ sig) : ∀ r, 1 ≤ r → (ringRd (F := F) m).duties g r = ∅ :=
  fun r hr => by dsimp only [ringRd]; exact if_neg fun h => by omega

theorem amount_bar (d : Bool) : (ringRd (F := F) m).amount (barCell c) 0 d = 1 := rfl
theorem amount_dma (q : DmaSem sig) (d : Bool) : (ringRd (F := F) m).amount ((c : Thread nD τ), .dma q) 0 d = N := rfl

theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_snd {n : ℕ} (hn : n < 30) : (ringRd (F := F) m).expect (sndCell c n) 0 = N := by
  unfold Schedule.expect Schedule.amountOf; rw [duties_snd m c hn, Finset.sum_singleton, amount_dma]
theorem expect_rcv {n : ℕ} (hn : n < 30) : (ringRd (F := F) m).expect (rcvCell c n) 0 = N := by
  unfold Schedule.expect Schedule.amountOf; rw [duties_rcv m c hn, Finset.sum_singleton, amount_dma]

theorem payload_bar (d : Bool) : (ringRd (F := F) m).payload (barCell c) 0 d = barPay c d := rfl
theorem snd_back : ∀ n < 30, (sndS n).val < 36 ∧ jx ((sndS n).val - 4) = n := by decide
theorem rcv_back : ∀ n < 30, ¬ (rcvS n).val < 36 ∧ jx ((rcvS n).val - 36) = n := by decide
theorem payload_snd {n : ℕ} (hn : n < 30) (d : Bool) : (ringRd (F := F) m).payload (sndCell c n) 0 d = srcPts m c n := by
  show (if (sndS n).val < 36 then srcPts m c (jx ((sndS n).val - 4)) else landPts m c (jx ((sndS n).val - 36))) = _
  rw [if_pos (snd_back n hn).1, (snd_back n hn).2]
theorem payload_rcv {n : ℕ} (hn : n < 30) (d : Bool) : (ringRd (F := F) m).payload (rcvCell c n) 0 d = landPts m c n := by
  show (if (rcvS n).val < 36 then srcPts m c (jx ((rcvS n).val - 4)) else landPts m c (jx ((rcvS n).val - 36))) = _
  rw [if_neg (rcv_back n hn).1, (rcv_back n hn).2]

theorem rest_bar : bigSep ((ringRd (F := F) m).duties (barCell c) 0 \ ∅) (fun d => (ringRd (F := F) m).payload (barCell c) 0 d)
    = iprop(barPay c false ∗ barPay c true) := by
  rw [Finset.sdiff_empty, duties_bar, bigSep_univ_eq_bigSepL [false, true] (by decide) (by decide), bigSepL_cons_cons, bigSepL_singleton]
  rfl
theorem rest_snd {n : ℕ} (hn : n < 30) : bigSep ((ringRd (F := F) m).duties (sndCell c n) 0 \ ∅) (fun d => (ringRd (F := F) m).payload (sndCell c n) 0 d)
    = srcPts m c n := by
  rw [Finset.sdiff_empty, duties_snd m c hn, bigSep_singleton, payload_snd m c hn]
theorem rest_rcv {n : ℕ} (hn : n < 30) : bigSep ((ringRd (F := F) m).duties (rcvCell c n) 0 \ ∅) (fun d => (ringRd (F := F) m).payload (rcvCell c n) 0 d)
    = landPts m c n := by
  rw [Finset.sdiff_empty, duties_rcv m c hn, bigSep_singleton, payload_rcv m c hn]

end Sched

/-! ## What is owed; the levels -/

/-- What device `c` owes the receive semaphores of the transfers `n, n + 1, …` (`k` of them). -/
def owedK (c : Dev nD) : ℕ → ℕ → CellTallies nD τ sig Unit
  | _, 0 => 0
  | n, k + 1 => owedK c (n + 1) k + tallyAt (rcvCell (tgt n c) n) () N
/-- What it owes with `n` transfers started. -/
def owed (c : Dev nD) (n : ℕ) : CellTallies nD τ sig Unit := owedK c n (30 - n)
theorem owed_step (c : Dev nD) {n : ℕ} (h : n < 30) : owed c n = owed c (n + 1) + tallyAt (rcvCell (tgt n c) n) () N := by
  unfold owed
  rw [show 30 - n = (30 - (n + 1)) + 1 by omega]; rfl
theorem owed_all (c : Dev nD) : owed c 30 = 0 := rfl

/-- At launch: the two barrier signals besides, the second signal's (to the successor) innermost. -/
def O₁ (c : Dev nD) : CellTallies nD τ sig Unit := owed c 0 + tallyAt (barCell (nxt c)) () 1
def O₀ (c : Dev nD) : CellTallies nD τ sig Unit := O₁ c + tallyAt (barCell (prv c)) () 1

def L (g : GSem nD τ sig) : Finset Unit := if g.1.2 = .tc then {()} else ∅
/-- Levels: the barrier below the receive semaphores, these in the order of the transfers; all else at zero. -/
def lvS (sm : SemLoc sig) : ℕ := match sm with
  | .reg _ => 1
  | .dma s => if s.val < 36 then 0 else jx (s.val - 36) + 2
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_rcv (c : Dev nD) {n : ℕ} (hn : n < 30) : lv (rcvCell c n) () = n + 2 := by
  show (if (rcvS n).val < 36 then 0 else jx ((rcvS n).val - 36) + 2) = _
  rw [if_neg (rcv_back n hn).1, (rcv_back n hn).2]

theorem owedK_pos {c : Dev nD} {g : GSem nD τ sig} {u : Unit} : ∀ {k n : ℕ}, 0 < owedK c n k g u → ∃ i, n ≤ i ∧ i < n + k ∧ g = rcvCell (tgt i c) i
  | 0, n, h => absurd h (by show ¬ 0 < (0 : ℕ); exact Nat.lt_irrefl 0)
  | k + 1, n, h => by
    unfold owedK at h
    rw [Pi.add_apply, Finsupp.add_apply, tallyAt_apply] at h
    by_cases hg : g = rcvCell (tgt n c) n
    · exact ⟨n, le_rfl, by omega, hg⟩
    · rw [if_neg (fun h' => hg h'.1), Nat.add_zero] at h
      obtain ⟨i, h1, h2, h3⟩ := owedK_pos h
      exact ⟨i, by omega, by omega, h3⟩
theorem owed_pos {c : Dev nD} {g : GSem nD τ sig} {u : Unit} {n : ℕ} (h : 0 < owed c n g u) : ∃ i, n ≤ i ∧ i < 30 ∧ g = rcvCell (tgt i c) i := by
  obtain ⟨i, h1, h2, h3⟩ := owedK_pos (k := 30 - n) h
  exact ⟨i, h1, by omega, h3⟩
theorem O₀_pos {c : Dev nD} {g : GSem nD τ sig} {u : Unit} (h : 0 < O₀ c g u) :
    (∃ i, i < 30 ∧ g = rcvCell (tgt i c) i) ∨ g = barCell (nxt c) ∨ g = barCell (prv c) := by
  unfold O₀ O₁ at h
  rw [Pi.add_apply, Finsupp.add_apply, Pi.add_apply, Finsupp.add_apply, tallyAt_apply, tallyAt_apply] at h
  by_contra hn; rw [not_or, not_or] at hn
  rw [if_neg (fun h' => hn.2.1 h'.1), if_neg (fun h' => hn.2.2 h'.1)] at h
  simp only [Nat.add_zero] at h
  obtain ⟨i, _, h2, h3⟩ := owed_pos h
  exact hn.1 ⟨i, h2, h3⟩

/-- A semaphore at a level below the receive semaphores of the transfers from `n` on may be waited for with those owed. -/
theorem mayWait_owed (c : Dev nD) (sm : SemLoc sig) (n : ℕ) (hl : lvS sm < n + 2) : (levAts L lv : sProp 𝕄) ⊢ MayWait (c : Thread nD τ) sm () (owed c n) :=
  MayOwe.of_cut (L := L) (lev := lv) (lvS sm) (fun p hp => by rw [Finset.mem_singleton.mp hp, L_tc]; exact Finset.mem_singleton_self _)
    (fun g u hg => by obtain ⟨i, _, _, rfl⟩ := owed_pos hg; exact Finset.mem_singleton_self _)
    (fun p hp => by rw [Finset.mem_singleton.mp hp]; exact le_rfl)
    (fun g u hg => by
      obtain ⟨i, h1, h2, rfl⟩ := owed_pos hg
      rw [lv_rcv _ h2]; omega)

theorem mayWait_stage (c : Dev nD) (q : DmaSem sig) (hq : q.val < 36) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, _, rfl⟩ | rfl | rfl <;> exact Finset.mem_singleton_self _)
      (fun p hp => by
        rw [Finset.mem_singleton.mp hp]
        show (if q.val < 36 then 0 else jx (q.val - 36) + 2) ≤ 0
        rw [if_pos hq])
      (fun g u hg => by
        rcases O₀_pos hg with ⟨i, hi, rfl⟩ | rfl | rfl
        · rw [lv_rcv _ hi]; omega
        · exact Nat.one_pos
        · exact Nat.one_pos)
  · rw [MayWait_zero]; iintro -; iempintro

end Cert.RingAttn

end
-- ==== Proof.Slots.lean ====
/-
The sixteen slots of a scratch buffer: what goes through a slot's views, how a slot's elements are shared out, and
how a buffer is the slots together.
-/
module

public import proofs.«01_k».proof.Proof.Ring

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Through a slot's views -/

theorem tl_slot (s : ℕ) (h : s < 16) (x : S1x1024x128.Idx) : tl ((slotR s h).idx x) = x := by
  funext a
  match a with
  | ⟨0, _⟩ => exact Fin.ext (by have := (x 0).isLt; change (x 0).val < 1 at this; show 0 = (x 0).val; omega)
  | ⟨1, _⟩ => exact Fin.ext (by show 0 + 1 * (x 1).val = (x 1).val; omega)
  | ⟨2, _⟩ => exact Fin.ext (by show 0 + 1 * (x 2).val = (x 2).val; omega)

theorem row_slot (s : ℕ) (h : s < 16) (x : S1x1024x128.Idx) : (((slotR s h).idx x) 0).val = s := by
  have := (x 0).isLt
  change (x 0).val < 1 at this
  show s + 1 * (x 0).val = s
  omega

theorem full_slot (v : Bool) (c : Dev nD) (s : ℕ) (h : s < 16) (x : S1x1024x128.Idx) :
    full m v c ((slotR s h).idx x) = blkOf m v (orig c s) x := by
  unfold full; rw [tl_slot, row_slot]

/-- A load of a slot at its final contents reads the block that belongs there. -/
theorem readAt_slot (v : Bool) (c : Dev nD) (s : ℕ) (h : s < 16) :
    (bM v).view.readAt (Elt F) (slotR s h).toLoadRect (fullB m v c) = blkOf m v (orig c s) := by
  funext x
  cases v
  · exact full_slot m false c s h x
  · exact full_slot m true c s h x

/-- What transfer `n` writes is what belongs where it lands. -/
theorem landed (v : Bool) (c d : Dev nD) (s s' : ℕ) (h : s < 16) (h' : s' < 16) (ho : orig d s' = orig c s)
    (fd : Buf (Elt F) ((bM v).view.loc (d : Thread nD τ))) :
    ∀ i ∈ (slotM v s' h').view.set,
      (slotM v s' h').view.write (Elt F) fd ((slotM v s h).view.read (Elt F) (fullB m v c)) Finset.univ i = fullB m v d i := by
  intro i hi
  obtain ⟨j, _, rfl⟩ := Finset.mem_map.mp hi
  rw [View.write_emb_of_mem (v := (slotM v s' h').view) fd _ (Finset.mem_univ j)]
  cases v
  · exact (full_slot m false c s h _).trans ((congrArg (fun e => blkOf m false e _) ho.symm).trans (full_slot m false d s' h' _).symm)
  · exact (full_slot m true c s h _).trans ((congrArg (fun e => blkOf m true e _) ho.symm).trans (full_slot m true d s' h' _).symm)

/-- A store of a device's own block leaves slot 0 at its final contents. -/
theorem stored (v : Bool) (c : Dev nD) (h : 0 < 16) (f : Buf (Elt F) ((bM v).view.loc (c : Thread nD τ))) :
    ∀ i ∈ ((bM v).access (slotR 0 h)).set,
      ((bM v).access (slotR 0 h)).write (Elt F) f (blkOf m v c) Finset.univ i = fullB m v c i := by
  intro i hi
  obtain ⟨j, _, rfl⟩ := Finset.mem_map.mp hi
  rw [View.write_emb_of_mem (v := (bM v).access (slotR 0 h)) f _ (Finset.mem_univ j)]
  cases v
  · exact (full_slot m false c 0 h j).symm
  · exact (full_slot m true c 0 h j).symm

theorem access_set (v : Bool) (s : ℕ) (h : s < 16) : ((bM v).access (slotR s h)).set = (slotM v s h).view.set :=
  (View.set_reshape _ _).symm

/-! ## Sharing a slot -/

theorem slotPts_share (v : Bool) (c : Dev nD) (s : ℕ) (h : s < 16) (q : PosShare TreeShare) (f) :
    (slotPts (F := F) v c s h q f) ⊣⊢ iprop(slotPts v c s h q.left f ∗ slotPts v c s h q.right f) :=
  pointsTo_share (PosShare.mem_left_op_right q)

theorem slotAt_share (v : Bool) (c : Dev nD) (s : ℕ) (q : PosShare TreeShare) :
    (slotAt m v c s q) ⊣⊢ iprop(slotAt m v c s q.left ∗ slotAt m v c s q.right) := by
  unfold slotAt
  by_cases h : s < 16
  · rw [dif_pos h, dif_pos h, dif_pos h]; exact slotPts_share v c s h q _
  · rw [dif_neg h, dif_neg h, dif_neg h]; exact ⟨(sep_emp (PROP := sProp 𝕄)).2, (sep_emp (PROP := sProp 𝕄)).1⟩

theorem slotAt_eq (v : Bool) (c : Dev nD) (s : ℕ) (h : s < 16) (q : PosShare TreeShare) :
    slotAt m v c s q = slotPts v c s h q (fullB m v c) := dif_pos h
theorem slotAny_eq (v : Bool) (c : Dev nD) (s : ℕ) (h : s < 16) :
    slotAny (F := F) v c s = iprop(∃ f, slotPts v c s h fullShare f) := dif_pos h

/-! ## A buffer as its slots -/

/-- The elements of slot `s`. -/
def rows (s : ℕ) : Finset S16x1024x128.Idx := Finset.univ.filter fun i => (i 0).val = s

theorem slot_rows (s : ℕ) (h : s < 16) : (slotR s h).set = rows s := by
  ext i
  rw [Rect.mem_set_unit, rows, Finset.mem_filter]
  constructor
  · intro hi
    have := hi 0
    change s ≤ (i 0).val ∧ (i 0).val < s + 1 at this
    exact ⟨Finset.mem_univ _, by omega⟩
  · rintro ⟨_, hi⟩ a
    match a with
    | ⟨0, _⟩ => show s ≤ (i 0).val ∧ (i 0).val < s + 1; omega
    | ⟨1, _⟩ => have := (i 1).isLt; change (i 1).val < 1024 at this; show 0 ≤ (i 1).val ∧ (i 1).val < 0 + 1024; omega
    | ⟨2, _⟩ => have := (i 2).isLt; change (i 2).val < 128 at this; show 0 ≤ (i 2).val ∧ (i 2).val < 0 + 128; omega

/-- A whole scratch buffer of device `c`. -/
def wholePts (v : Bool) (c : Dev nD) (f : Buf (Elt F) ((bM v).view.loc (c : Thread nD τ))) : sProp 𝕄 :=
  (bM v).view.loc (c : Thread nD τ) ↦{fullShare} f

theorem slotPts_rows (v : Bool) (c : Dev nD) (s : ℕ) (h : s < 16) (q : PosShare TreeShare) (f) :
    slotPts (F := F) v c s h q f = match v, f with
      | false, f => ((bM false).view.loc (c : Thread nD τ) ↦[rows s]{q} f)
      | true, f => ((bM true).view.loc (c : Thread nD τ) ↦[rows s]{q} f) := by
  cases v
  · exact congrArg (fun I => ((bM false).view.loc (c : Thread nD τ) ↦[I]{q} f : sProp 𝕄))
      ((access_set false s h).symm.trans ((View.set_slice_whole cc0_scratch0 (slotR s h)).trans (slot_rows s h)))
  · exact congrArg (fun I => ((bM true).view.loc (c : Thread nD τ) ↦[I]{q} f : sProp 𝕄))
      ((access_set true s h).symm.trans ((View.set_slice_whole cc0_scratch1 (slotR s h)).trans (slot_rows s h)))

theorem rows_cover : (Finset.range 16).biUnion rows = Finset.univ := by
  ext i
  rw [Finset.mem_biUnion]
  exact ⟨fun _ => Finset.mem_univ _, fun _ => ⟨(i 0).val, Finset.mem_range.mpr (i 0).isLt, Finset.mem_filter.mpr ⟨Finset.mem_univ _, rfl⟩⟩⟩
theorem rows_disjoint (s s' : ℕ) (h : s ≠ s') : Disjoint (rows s) (rows s') :=
  Finset.disjoint_left.mpr fun i hi hi' => h (((Finset.mem_filter.mp hi).2).symm.trans (Finset.mem_filter.mp hi').2)

/-- A whole buffer is its sixteen slots, -/
theorem whole_slots (v : Bool) (c : Dev nD) (f) :
    wholePts (F := F) v c f = bigSep (Finset.range 16) fun s => if h : s < 16 then slotPts v c s h fullShare f else iprop(emp) := by
  cases v
  · refine Eq.trans (b := bigSep (Finset.range 16) fun s => ((bM false).view.loc (c : Thread nD τ) ↦[rows s]{fullShare} f : sProp 𝕄)) ?_ ?_
    · have h := pointsTo_biUnion (Ix := Unit) (Name := ℕ) (U := UU) (Lvl := ℕ) (ℓ := (bM false).view.loc (c : Thread nD τ)) (q := fullShare) (f := f) (Finset.range 16) rows fun s _ s' _ h => rows_disjoint s s' h
      rw [rows_cover] at h; exact h
    · exact bigSep_congr fun s hs => by rw [dif_pos (Finset.mem_range.mp hs), slotPts_rows]
  · refine Eq.trans (b := bigSep (Finset.range 16) fun s => ((bM true).view.loc (c : Thread nD τ) ↦[rows s]{fullShare} f : sProp 𝕄)) ?_ ?_
    · have h := pointsTo_biUnion (Ix := Unit) (Name := ℕ) (U := UU) (Lvl := ℕ) (ℓ := (bM true).view.loc (c : Thread nD τ)) (q := fullShare) (f := f) (Finset.range 16) rows fun s _ s' _ h => rows_disjoint s s' h
      rw [rows_cover] at h; exact h
    · exact bigSep_congr fun s hs => by rw [dif_pos (Finset.mem_range.mp hs), slotPts_rows]

/-- so it is given out as sixteen slots of whatever contents, -/
theorem whole_any (v : Bool) (c : Dev nD) (f) :
    wholePts (F := F) v c f ⊢ bigSep (Finset.range 16) fun s => slotAny v c s := by
  rw [whole_slots]
  refine bigSep_mono fun s hs => ?_
  rw [dif_pos (Finset.mem_range.mp hs), slotAny_eq v c s (Finset.mem_range.mp hs)]
  show (slotPts v c s _ fullShare f : sProp 𝕄) ⊢ iprop(∃ f, slotPts v c s _ fullShare f)
  iintro H; iexists f; iexact H

/-- and got back from them at their final contents. -/
theorem whole_full (v : Bool) (c : Dev nD) :
    wholePts (F := F) v c (fullB m v c) = bigSep (Finset.range 16) fun s => slotAt m v c s fullShare := whole_slots v c _

/-! ## The slots of both buffers by transfers -/

/-- A slot of one of the two buffers. -/
abbrev slots : Finset (Bool × ℕ) := Finset.univ ×ˢ Finset.range 16
/-- The slots transfers land in. -/
abbrev landing (n : ℕ) : Bool × ℕ := (isV n, dstS n)

theorem landing_inj : Set.InjOn landing (Finset.range 30 : Finset ℕ) := by
  intro a ha b hb h
  have H : ∀ a < 30, ∀ b < 30, landing a = landing b → a = b := by decide
  exact H a (Finset.mem_range.mp ha) b (Finset.mem_range.mp hb) h

theorem slots_eq : slots = insert (false, 0) (insert (true, 0) ((Finset.range 30).image landing)) := by decide

/-- All slots are a device's own two and one per transfer landing on it. -/
theorem slots_split (Φ : Bool × ℕ → sProp 𝕄) :
    bigSep slots Φ = iprop(Φ (false, 0) ∗ Φ (true, 0) ∗ bigSep (Finset.range 30) fun n => Φ (landing n)) := by
  rw [slots_eq, bigSep_insert (by decide), bigSep_insert (by decide), bigSep_image_of_injOn landing_inj]; rfl

theorem slots_two (Φ : Bool × ℕ → sProp 𝕄) :
    bigSep slots Φ = iprop(bigSep (Finset.range 16) (fun s => Φ (false, s)) ∗ bigSep (Finset.range 16) fun s => Φ (true, s)) := by
  rw [show slots = (Finset.range 16).image (fun s => (false, s)) ∪ (Finset.range 16).image (fun s => (true, s)) by decide,
    bigSep_union (by decide), bigSep_image_of_injOn (fun a _ b _ h => (Prod.mk.inj h).2), bigSep_image_of_injOn (fun a _ b _ h => (Prod.mk.inj h).2)]; rfl

/-- What device `c` can give away before the transfers start: its two buffers are its own slots, room for its
    predecessor's transfers to the right and room for its successor's to the left. -/
theorem rooms (c : Dev nD) (f g) :
    iprop(wholePts (F := F) false c f ∗ wholePts true c g)
      ⊢ iprop(slotAny false c 0 ∗ slotAny true c 0 ∗ barPay (prv c) true ∗ barPay (nxt c) false) := by
  refine (BIClass.sep_mono (whole_any false c f) (whole_any true c g)).trans ?_
  refine (Entails.of_eq (slots_two (F := F) (fun p => slotAny p.1 c p.2)).symm).trans ?_
  rw [slots_split]
  refine sep_mono_right (sep_mono_right ?_)
  rw [bigSep_filter_split (Finset.range 30) (fun n => right n = true)]
  unfold barPay
  refine BIClass.sep_mono (Entails.of_eq (bigSep_congr fun n hn => ?_)) (Entails.of_eq ?_)
  · have hr := (Finset.mem_filter.mp hn).2
    unfold roomPts tgt
    rw [hr, cond_true, nxt_prv]
  · rw [show ((Finset.range 30).filter fun n => ¬ right n = true) = (Finset.range 30).filter fun n => right n = false from
      Finset.filter_congr fun n _ => Bool.not_eq_true _ ▸ Iff.rfl]
    refine bigSep_congr fun n hn => ?_
    have hr := (Finset.mem_filter.mp hn).2
    unfold roomPts tgt
    rw [hr, cond_false, prv_nxt]

end Cert.RingAttn
-- ==== Proof.State.lean ====
/-
What a device holds between two operations of the kernel's body, and what each operation does to it.
-/
module

public import proofs.«01_k».proof.Proof.Slots
public import Idealize.SL.BI.BigOpNat

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The cells -/

/-- A device's cells: the barrier, a send and a receive cell per transfer. -/
abbrev Cell : Type := Unit ⊕ (Fin 30 ⊕ Fin 30)
/-- The semaphore of a cell. -/
def cellSem : Cell → SemLoc sig
  | .inl _ => .reg barS
  | .inr (.inl n) => .dma (sndS n.val)
  | .inr (.inr n) => .dma (rcvS n.val)
/-- A cell of a device. -/
def kcell (p : Dev nD × Cell) : GSem nD τ sig := ((p.1 : Thread nD τ), cellSem p.2)

variable (K : Dev nD × Cell → ℕ)

/-- Every cell's invariant, and that its round is reached: kept by all devices for good. -/
def recs : sProp 𝕄 := bigSep Finset.univ fun p => iprop(cellInv ER (ringRd (F := F) m) (K p) (kcell p) ∗ reached ER (kcell p) 0)

instance recs_persistent : Persistent (recs (F := F) m K) := by unfold recs; infer_instance

theorem recs_at (p : Dev nD × Cell) : recs (F := F) m K ⊢ iprop(cellInv ER (ringRd (F := F) m) (K p) (kcell p) ∗ reached ER (kcell p) 0) :=
  bigSep_elim (Finset.mem_univ p)

/-- Where the run's function table and variants come from: none is used. -/
abbrev 𝒱₀ : Variants := Variants.none

/-! ## The state -/

variable (c : Dev nD)

/-- What starting transfer `n` takes: the two duties, and the room it lands in. -/
def sendTok (n : ℕ) : sProp 𝕄 :=
  iprop(dutyTok ER (sndCell c n) 0 false ∗ dutyTok ER (rcvCell (tgt n c) n) 0 false ∗ roomPts c n)
/-- What waiting for arrival `n` takes. -/
def rcvTok (n : ℕ) : sProp 𝕄 := iprop(cred (tallyAt (rcvCell c n) () N) ∗ atPos ER (rcvCell c n) 0 ∅ 0)
/-- The credit of a transfer under way. -/
def sndCred (n : ℕ) : sProp 𝕄 := cred (tallyAt (sndCell c n) () N)
/-- The position at a send cell. -/
def sndAt (n : ℕ) : sProp 𝕄 := atPos ER (sndCell c n) 0 ∅ 0
/-- A send cell done with, -/
def sndZ (n : ℕ) : sProp 𝕄 := semVal (sndCell c n) 0
/-- a receive cell done with. -/
def rcvZ (n : ℕ) : sProp 𝕄 := semVal (rcvCell c n) 0

/-- Does what transfer `n` brings go on to the next device? -/
def fwd (n : ℕ) : Bool := Nat.ble n 24 || n == 26
/-- By which transfer. -/
def onward (n : ℕ) : ℕ := bif n == 26 then 29 else n + 4
/-- What the device keeps of what transfer `n` brings. -/
def kept (n : ℕ) : sProp 𝕄 := slotAt m (isV n) c (dstS n) (bif fwd n then fullShare.right else fullShare)

/-- Device `c`'s whole staging buffer `b` with contents `X`. -/
abbrev stgPts (b : Ref sig .tc) (X : b.ty.Contents (Elt F)) : sProp 𝕄 :=
  (Memref.whole b : Memref sig .tc _ _ _).view.loc (c : Thread nD τ) ↦{fullShare} X

/-- The three staged blocks, which the body only reads. -/
def ins : sProp 𝕄 :=
  iprop(stgPts c cc0_stg0_0 (qst m c) ∗ stgPts c cc0_stg1_0 (kst m c) ∗ stgPts c cc0_stg2_0 (vst m c))

/-- With `ns` transfers started, `k` arrived and `nw` of the started ones seen through; `R` is whatever else. -/
def St (R : sProp 𝕄) (ns k nw : ℕ) : sProp 𝕄 :=
  iprop(recs m K ∗ levAts L lv ∗ R ∗ ins m c ∗ (∃ W, owes (c : Thread nD τ) (owed c ns) W)
    ∗ bigSep (Finset.Ico ns 30) (sendTok c)
    ∗ bigSep (Finset.Ico nw ns) (sndCred c) ∗ bigSep (Finset.Ico nw 30) (sndAt c)
    ∗ bigSep (Finset.range nw) (sndZ c) ∗ bigSep (Finset.range nw) (srcPts m c)
    ∗ bigSep (Finset.Ico k 30) (rcvTok c) ∗ bigSep (Finset.range k) (rcvZ c) ∗ bigSep (Finset.range k) (kept m c))

theorem st_frame {R R' : sProp 𝕄} {ns k nw : ℕ} (h : R ⊢ R') : St m K c R ns k nw ⊢ St m K c R' ns k nw := by
  unfold St
  exact sep_mono_right (sep_mono_right (sep_mono_left h))

/-! ## The operations -/

variable {α : Type}

/-- A program of the body run by device `c`. -/
abbrev wpB (p : Prog (TpuEff nD τ sig (Elt F) Λ₀ .tc) α) (Q : α → sProp 𝕄) : sProp 𝕄 :=
  wp frame (wpE (defs₀ (F := F)) 𝒱₀ (c : Thread nD τ) none) Set.univ p Q

theorem st_pure {Q : α → sProp 𝕄} {R : sProp 𝕄} {ns k nw : ℕ} {a : α} (h : St m K c R ns k nw ⊢ Q a) :
    St m K c R ns k nw ⊢ wpB c (pure a : Prog (TpuEff nD τ sig (Elt F) Λ₀ .tc) α) Q := by
  unfold wpB
  rw [Prog.pure_eq_ret, wp_ret]
  exact h.trans fupd_intro

theorem st_deviceId {Q : α → sProp 𝕄} {P : sProp 𝕄} {k : Dev nD → Prog (TpuEff nD τ sig (Elt F) Λ₀ .tc) α} (h : P ⊢ wpB c (k c) Q) :
    P ⊢ wpB c (Prog.lift .deviceId >>= k) Q := by
  show P ⊢ wp frame (wpE (defs₀ (F := F)) 𝒱₀ (c : Thread nD τ) none) Set.univ (.op .deviceId k) Q
  rw [wp_deviceId]; exact h

set_option maxHeartbeats 1000000 in
/-- Start of transfer `n`: it takes the source share at the head of the rest. -/
theorem st_send {Q : α → sProp 𝕄} (n : ℕ) (hn : n < 30) (d : Dev nD) (hd : d = tgt n c) {R : sProp 𝕄} {kr nw : ℕ} (hw : nw ≤ n)
    (h1 : srcS n < 16) (h2 : dstS n < 16)
    {hsc : (slotM (isV n) (dstS n) h2).view.ref.isScScratch = false}
    {hsrc : (slotM (isV n) (srcS n) h1).view.WordExact} {hdst : (slotM (isV n) (dstS n) h2).view.WordExact}
    {hsem : DmaTarget.Typed .vmem (.dma (rcvS n)) (.remote (d : Thread nD τ) (slotM (isV n) (dstS n) h2) (.dma (sndS n)) hsc)}
    {k : PUnit → Prog (TpuEff nD τ sig (Elt F) Λ₀ .tc) α} (h : St m K c R (n + 1) kr nw ⊢ wpB c (k ⟨⟩) Q) :
    St m K c (iprop(srcPts m c n ∗ R)) n kr nw
      ⊢ wpB c (Prog.lift (.enqueueDma (slotM (isV n) (srcS n) h1) (.remote (Dev.tc d) (slotM (isV n) (dstS n) h2) (.dma (sndS n)) hsc)
          (.dma (rcvS n)) hsrc hdst hsem) >>= k) Q := by
  subst hd
  have h0 : iprop(emp) ⊢ iprop(St m K c R (n + 1) kr nw -∗ wpB c (k ⟨⟩) Q) := by
    iintro - H; iapply h; iexact H
  refine (sep_emp (PROP := sProp 𝕄)).2.trans ((sep_mono_right h0).trans ?_)
  have e1 : srcPts m c n = slotPts (isV n) c (srcS n) h1 (lent n) (fullB m (isV n) c) := slotAt_eq m _ c _ h1 _
  have e2 : sendTok (F := F) c n = iprop(dutyTok ER (sndCell c n) 0 false ∗ dutyTok ER (rcvCell (tgt n c) n) 0 false
      ∗ ∃ f, slotPts (isV n) (tgt n c) (dstS n) h2 fullShare f) := by
    unfold sendTok roomPts; rw [slotAny_eq (isV n) (tgt n c) (dstS n) h2]
  unfold St
  rw [bigSep_Ico_succ_bot hn, e1, e2]
  unfold slotPts
  iintro ⟨⟨#Hrecs, #Hlev, ⟨Hsrc, HR⟩, Hins, ⟨%W, HO⟩, ⟨⟨HtS, HtR, %fd, Hroom⟩, Htoks⟩, Hcr, Hat, Hz, Hret, Hrt, Hrz, Hkept⟩, Hk⟩
  ihave #HS := (recs_at m K (c, .inr (.inl ⟨n, hn⟩))) $$ Hrecs
  ihave #HD := (recs_at m K (tgt n c, .inr (.inr ⟨n, hn⟩))) $$ Hrecs
  icases HS with ⟨#HIs, #Hrs⟩
  icases HD with ⟨#HId, #Hrd⟩
  iapply (Rounds.wp_send_pointsTo 𝒱₀ ER (ringRd (F := F) m) (c : Thread nD τ) none (c' := (tgt n c : Thread nD τ)) (src := slotM (isV n) (srcS n) h1) (dst := slotM (isV n) (dstS n) h2)
      (sS := .dma (sndS n)) (sem := .dma (rcvS n)) (hsc := hsc) (hsrc := hsrc) (hdst := hdst) (hsem := hsem) (k := k) (κ₁ := K (c, .inr (.inl ⟨n, hn⟩))) (κ₂ := K (tgt n c, .inr (.inr ⟨n, hn⟩)))
      (r₁ := 0) (r₂ := 0) (d₁ := false) (d₂ := false) (fd := fd) (fs := fullB m (isV n) c) (q := lent n)
      (by rw [duties_snd m c hn]; exact Finset.mem_singleton_self _) (by rw [duties_rcv m (tgt n c) hn]; exact Finset.mem_singleton_self _)
      () () N (credit_slot (isV n) (dstS n) h2) (amount_dma m c _ _) (amount_dma m (tgt n c) _ _) (owed c (n + 1)) (owed_step c hn) (W := W)
      (by rw [payload_snd m c hn]; unfold srcPts; rw [slotAt_eq m (isV n) c (srcS n) h1]; exact Entails.rfl)
      (by
        rw [payload_rcv m (tgt n c) hn]; unfold landPts; rw [slotAt_eq m (isV n) (tgt n c) (dstS n) h2]
        exact Entails.of_eq (pointsTo_congr (landed m (isV n) c (tgt n c) (srcS n) (dstS n) h1 h2 (orig_tgt c n hn) fd)))) $$ [Hsrc HO HtS HtR Hroom]
  · isplitr; · iexact HIs
    isplitr; · iexact HId
    isplitl [Hsrc]; · iexact Hsrc
    isplitl [Hroom]; · iexact Hroom
    isplitl [HO]; · iexact HO
    isplitl [HtS]; · iexact HtS
    isplitr; · iexact Hrs
    isplitl [HtR]; · iexact HtR
    iexact Hrd
  iintro ⟨Hc1, HO⟩
  iapply Hk
  isplitr; · iexact Hrecs
  isplitr; · iexact Hlev
  isplitl [HR]; · iexact HR
  isplitl [Hins]; · iexact Hins
  isplitl [HO]; · iexists W; iexact HO
  isplitl [Htoks]; · iexact Htoks
  isplitl [Hcr Hc1]
  · rw [bigSep_Ico_succ_top hw]; isplitl [Hc1]; · unfold sndCred; iexact Hc1
    iexact Hcr
  isplitl [Hat]; · iexact Hat
  isplitl [Hz]; · iexact Hz
  isplitl [Hret]; · iexact Hret
  isplitl [Hrt]; · iexact Hrt
  isplitl [Hrz]; · iexact Hrz
  iexact Hkept

/-- A wait for a transfer started earlier: its source share comes back and its cell is done with. -/
theorem st_waitSend {Q : α → sProp 𝕄} (n : ℕ) (hn : n < 30) {R : sProp 𝕄}
    {b : Ref sig .tc} {hb : (c : Thread nD τ).2 = .tc ∨ b.HasMemref S1024x128 .bf16} (hN : b.dmaCredit S1024x128 .bf16 = N)
    {k : PUnit → Prog (TpuEff nD τ sig (Elt F) Λ₀ .tc) α} (h : St m K c R 30 30 (n + 1) ⊢ wpB c (k ⟨⟩) Q) :
    St m K c R 30 30 n ⊢ wpB c (Prog.lift (.waitDma (sndS n) b S1024x128 .bf16 hb) >>= k) Q := by
  have h0 : iprop(emp) ⊢ iprop(St m K c R 30 30 (n + 1) -∗ wpB c (k ⟨⟩) Q) := by
    iintro - H; iapply h; iexact H
  refine (sep_emp (PROP := sProp 𝕄)).2.trans ((sep_mono_right h0).trans ?_)
  unfold St
  rw [bigSep_Ico_succ_bot hn, bigSep_Ico_succ_bot hn, bigSep_range_succ n (sndZ c), bigSep_range_succ n (srcPts m c)]
  unfold sndCred sndAt
  iintro ⟨⟨#Hrecs, #Hlev, HR, Hins, ⟨%W, HO⟩, Htoks, ⟨Hc1, Hcr⟩, ⟨Hat1, Hat⟩, Hz, Hret, Hrt, Hrz, Hkept⟩, Hk⟩
  ihave #HS := (recs_at m K (c, .inr (.inl ⟨n, hn⟩))) $$ Hrecs
  icases HS with ⟨#HIs, #Hrs⟩
  iapply (Rounds.wp_wait_rest_token 𝒱₀ ER (ringRd m) (c : Thread nD τ) none (κ := K (c, .inr (.inl ⟨n, hn⟩)))
      (wpE_waitDma_eq 𝒱₀ (c : Thread nD τ) none Set.univ) (Set.mem_univ _) () (O := owed c 30) (W := W) (R := 0) (m := 0) (T := ∅)
      (by rw [Nat.zero_add, hN, expect_snd m c hn])) $$ [Hc1 HO Hat1]
  · isplitr; · iexact HIs
    isplitl [Hc1]; · rw [hN]; iexact Hc1
    isplitl [HO]; · iexact HO
    isplitr
    · iapply (mayWait_owed c (.dma (sndS n)) 30 (by show (if _ then _ else _) < _; rw [if_pos (snd_back n hn).1]; omega)); iexact Hlev
    iexact Hat1
  iintro ⟨HO, Hat1, -, Hpay⟩
  imod (Rounds.cell_close ER (ringRd m) (Set.mem_univ (K (c, .inr (.inl ⟨n, hn⟩)))) (fun h => h) (R := 0 + 1) (duties_later m (sndCell c n))) $$ [Hat1] with Hz1
  · isplitr; · iexact HIs
    iexact Hat1
  iapply Hk
  isplitr; · iexact Hrecs
  isplitr; · iexact Hlev
  isplitl [HR]; · iexact HR
  isplitl [Hins]; · iexact Hins
  isplitl [HO]; · iexists _; iexact HO
  isplitl [Htoks]; · iexact Htoks
  isplitl [Hcr]; · iexact Hcr
  isplitl [Hat]; · iexact Hat
  isplitl [Hz Hz1]
  · isplitl [Hz1]; · unfold sndZ; iexact Hz1
    iexact Hz
  isplitl [Hret Hpay]
  · isplitl [Hpay]; · iapply (Entails.of_eq (rest_snd m c hn)); iexact Hpay
    iexact Hret
  isplitl [Hrt]; · iexact Hrt
  isplitl [Hrz]; · iexact Hrz
  iexact Hkept

/-- A wait for arrival `n`, before anything the device still has to start before it: what has landed
    is kept, but for the share the transfer passing it on will borrow, which is put with the rest. -/
theorem st_recv {Q : α → sProp 𝕄} (n ns : ℕ) (hn : n < 30) (hs : n < ns) {R : sProp 𝕄} {nw : ℕ}
    {b : Ref sig .tc} {hb : (c : Thread nD τ).2 = .tc ∨ b.HasMemref S1024x128 .bf16} (hN : b.dmaCredit S1024x128 .bf16 = N)
    {k : PUnit → Prog (TpuEff nD τ sig (Elt F) Λ₀ .tc) α}
    (h : St m K c (bif fwd n then iprop(srcPts m c (onward n) ∗ R) else R) ns (n + 1) nw ⊢ wpB c (k ⟨⟩) Q) :
    St m K c R ns n nw ⊢ wpB c (Prog.lift (.waitDma (rcvS n) b S1024x128 .bf16 hb) >>= k) Q := by
  have h0 : iprop(emp) ⊢ iprop(St m K c (bif fwd n then iprop(srcPts m c (onward n) ∗ R) else R) ns (n + 1) nw -∗ wpB c (k ⟨⟩) Q) := by
    iintro - H; iapply h; iexact H
  refine (sep_emp (PROP := sProp 𝕄)).2.trans ((sep_mono_right h0).trans ?_)
  have hcut : landPts m c n ∗ R ⊢ iprop((bif fwd n then iprop(srcPts m c (onward n) ∗ R) else R) ∗ kept m c n) := by
    cases hf : fwd n with
    | false =>
      unfold kept landPts; rw [hf, cond_false, cond_false]
      iintro ⟨H, HR⟩; isplitl [HR]; · iexact HR
      iexact H
    | true =>
      have e : ∀ n < 30, fwd n = true → isV (onward n) = isV n ∧ srcS (onward n) = dstS n ∧ Nat.ble 4 (onward n) = true := by decide
      obtain ⟨e1, e2, e3⟩ := e n hn hf
      unfold kept srcPts landPts lent; rw [hf, cond_true, cond_true, e1, e2, e3, cond_true]
      iintro ⟨H, HR⟩
      ihave H2 := (slotAt_share m (isV n) c (dstS n) fullShare).1 $$ H
      icases H2 with ⟨Ha, Hb⟩
      isplitr [Hb]
      · isplitl [Ha]; · iexact Ha
        iexact HR
      iexact Hb
  unfold St
  rw [bigSep_Ico_succ_bot hn, bigSep_range_succ n (rcvZ c), bigSep_range_succ n (kept m c)]
  unfold rcvTok
  iintro ⟨⟨#Hrecs, #Hlev, HR, Hins, ⟨%W, HO⟩, Htoks, Hcr, Hat, Hz, Hret, ⟨⟨Hc1, Hat1⟩, Hrt⟩, Hrz, Hkept⟩, Hk⟩
  ihave #HS := (recs_at m K (c, .inr (.inr ⟨n, hn⟩))) $$ Hrecs
  icases HS with ⟨#HIs, #Hrs⟩
  iapply (Rounds.wp_wait_rest_token 𝒱₀ ER (ringRd m) (c : Thread nD τ) none (κ := K (c, .inr (.inr ⟨n, hn⟩)))
      (wpE_waitDma_eq 𝒱₀ (c : Thread nD τ) none Set.univ) (Set.mem_univ _) () (O := owed c ns) (W := W) (R := 0) (m := 0) (T := ∅)
      (by rw [Nat.zero_add, hN, expect_rcv m c hn])) $$ [Hc1 HO Hat1]
  · isplitr; · iexact HIs
    isplitl [Hc1]; · rw [hN]; iexact Hc1
    isplitl [HO]; · iexact HO
    isplitr
    · iapply (mayWait_owed c (.dma (rcvS n)) ns (by have := lv_rcv c hn; change lvS (.dma (rcvS n)) = n + 2 at this; omega)); iexact Hlev
    iexact Hat1
  iintro ⟨HO, Hat1, -, Hpay⟩
  imod (Rounds.cell_close ER (ringRd m) (Set.mem_univ (K (c, .inr (.inr ⟨n, hn⟩)))) (fun h => h) (R := 0 + 1) (duties_later m (rcvCell c n))) $$ [Hat1] with Hz1
  · isplitr; · iexact HIs
    iexact Hat1
  ihave Hpay := (Entails.of_eq (rest_rcv m c hn)) $$ Hpay
  ihave Hcut := hcut $$ [Hpay HR]
  · isplitl [Hpay]; · iexact Hpay
    iexact HR
  icases Hcut with ⟨HR, Hk1⟩
  iapply Hk
  isplitr; · iexact Hrecs
  isplitr; · iexact Hlev
  isplitl [HR]; · iexact HR
  isplitl [Hins]; · iexact Hins
  isplitl [HO]; · iexists _; iexact HO
  isplitl [Htoks]; · iexact Htoks
  isplitl [Hcr]; · iexact Hcr
  isplitl [Hat]; · iexact Hat
  isplitl [Hz]; · iexact Hz
  isplitl [Hret]; · iexact Hret
  isplitl [Hrt]; · iexact Hrt
  isplitl [Hrz Hz1]
  · isplitl [Hz1]; · unfold rcvZ; iexact Hz1
    iexact Hrz
  isplitl [Hk1]; · iexact Hk1
  iexact Hkept

/-- A wait for an arrival the next start passes on. -/
theorem st_recv_on {Q : α → sProp 𝕄} (n ns : ℕ) (hn : n < 30) (hs : n < ns) (hf : fwd n = true ∧ onward n = ns) {R : sProp 𝕄} {nw : ℕ}
    {b : Ref sig .tc} {hb : (c : Thread nD τ).2 = .tc ∨ b.HasMemref S1024x128 .bf16} (hN : b.dmaCredit S1024x128 .bf16 = N)
    {k : PUnit → Prog (TpuEff nD τ sig (Elt F) Λ₀ .tc) α}
    (h : St m K c (iprop(srcPts m c ns ∗ R)) ns (n + 1) nw ⊢ wpB c (k ⟨⟩) Q) :
    St m K c R ns n nw ⊢ wpB c (Prog.lift (.waitDma (rcvS n) b S1024x128 .bf16 hb) >>= k) Q :=
  st_recv m K c n ns hn hs hN (by rw [hf.1, cond_true, hf.2]; exact h)

/-- A wait for an arrival that goes no further. -/
theorem st_recv_end {Q : α → sProp 𝕄} (n ns : ℕ) (hn : n < 30) (hs : n < ns) (hf : fwd n = false) {R : sProp 𝕄} {nw : ℕ}
    {b : Ref sig .tc} {hb : (c : Thread nD τ).2 = .tc ∨ b.HasMemref S1024x128 .bf16} (hN : b.dmaCredit S1024x128 .bf16 = N)
    {k : PUnit → Prog (TpuEff nD τ sig (Elt F) Λ₀ .tc) α}
    (h : St m K c R ns (n + 1) nw ⊢ wpB c (k ⟨⟩) Q) :
    St m K c R ns n nw ⊢ wpB c (Prog.lift (.waitDma (rcvS n) b S1024x128 .bf16 hb) >>= k) Q :=
  st_recv m K c n ns hn hs hN (by rw [hf, cond_false]; exact h)

/-! ## Loads -/

theorem load_sub (v : Bool) (s : ℕ) (h : s < 16) : (bM v).view.setOn (slotR s h).toLoadRect.set ⊆ (slotM v s h).view.set := by
  rw [← access_set v s h, View.set_slice]; exact fun i hi => hi

/-- Loading a slot of which some share is at hand. -/
theorem load_slot {Q : α → sProp 𝕄} (v : Bool) (s : ℕ) (h : s < 16) {P : sProp 𝕄} {q : PosShare TreeShare} {hl : (bM v).view.LoadsAt (slotR s h).toLoadRect}
    (hP : P ⊢ iprop(slotAt m v c s q ∗ (slotAt m v c s q -∗ P)))
    {k : (S1x1024x128.Idx → Elt F .bf16) → Prog (TpuEff nD τ sig (Elt F) Λ₀ .tc) α} (hk : P ⊢ wpB c (k (blkOf m v (orig c s))) Q) :
    P ⊢ wpB c (Prog.lift (.load (bM v) (slotR s h).toLoadRect hl) >>= k) Q := by
  refine hP.trans ?_
  have h0 : iprop(emp) ⊢ iprop(P -∗ wpB c (k (blkOf m v (orig c s))) Q) := by
    iintro - H; iapply hk; iexact H
  refine (sep_emp (PROP := sProp 𝕄)).2.trans ((sep_mono_right h0).trans ?_)
  rw [slotAt_eq m v c s h]
  unfold slotPts
  iintro ⟨⟨Hs, Hback⟩, Hk⟩
  iapply (wp_load 𝒱₀ (c : Thread nD τ) none Set.univ (m := bM v) (r := (slotR s h).toLoadRect) (f := fullB m v c)
    (load_sub v s h)) $$ Hs
  iintro Hs
  rw [readAt_slot m v c s h]
  iapply Hk
  iapply Hback
  iexact Hs

/-- The arrival that fills slot `s` (`0` has none). -/
def fills (v : Bool) (s : ℕ) : ℕ :=
  bif Nat.ble s 8 then (bif v && s == 8 then 29 else 4 * (s - 1) + (bif v then 2 else 0)) else 4 * (s - 9) + (bif v then 3 else 1)

/-- Loading a slot that has arrived. -/
theorem st_load {Q : α → sProp 𝕄} (v : Bool) (s : ℕ) (h : s < 16) {R : sProp 𝕄} {ns kr nw : ℕ} (hf : landing (fills v s) = (v, s)) (hr : fills v s < kr)
    {hl : (bM v).view.LoadsAt (slotR s h).toLoadRect}
    {k : (S1x1024x128.Idx → Elt F .bf16) → Prog (TpuEff nD τ sig (Elt F) Λ₀ .tc) α}
    (hk : St m K c R ns kr nw ⊢ wpB c (k (blkOf m v (orig c s))) Q) :
    St m K c R ns kr nw ⊢ wpB c (Prog.lift (.load (bM v) (slotR s h).toLoadRect hl) >>= k) Q := by
  refine load_slot m c v s h (q := bif fwd (fills v s) then fullShare.right else fullShare) ?_ hk
  have e : kept m c (fills v s) = slotAt m v c s (bif fwd (fills v s) then fullShare.right else fullShare) := by
    unfold kept; rw [show isV (fills v s) = v from congrArg Prod.fst hf, show dstS (fills v s) = s from congrArg Prod.snd hf]
  have e2 : bigSep (Finset.range kr) (kept m c) = iprop(slotAt m v c s (bif fwd (fills v s) then fullShare.right else fullShare)
      ∗ bigSep ((Finset.range kr).erase (fills v s)) (kept m c)) :=
    (bigSep_erase (Finset.mem_range.mpr hr) (Φ := kept m c)).trans (by rw [e]; rfl)
  unfold St
  rw [e2]
  iintro ⟨#Hrecs, #Hlev, HR, Hins, HO, Htoks, Hcr, Hat, Hz, Hret, Hrt, Hrz, ⟨H1, Hkept⟩⟩
  isplitl [H1]; · iexact H1
  iintro H1
  isplitr; · iexact Hrecs
  isplitr; · iexact Hlev
  isplitl [HR]; · iexact HR
  isplitl [Hins]; · iexact Hins
  isplitl [HO]; · iexact HO
  isplitl [Htoks]; · iexact Htoks
  isplitl [Hcr]; · iexact Hcr
  isplitl [Hat]; · iexact Hat
  isplitl [Hz]; · iexact Hz
  isplitl [Hret]; · iexact Hret
  isplitl [Hrt]; · iexact Hrt
  isplitl [Hrz]; · iexact Hrz
  isplitl [H1]; · iexact H1
  iexact Hkept

/-- Loading an own slot, a share of which is kept with the rest. -/
theorem st_load_own {Q : α → sProp 𝕄} (v : Bool) (h : 0 < 16) {R : sProp 𝕄} {q : PosShare TreeShare} {ns kr nw : ℕ}
    (hR : R ⊢ iprop(slotAt m v c 0 q ∗ (slotAt m v c 0 q -∗ R)))
    {hl : (bM v).view.LoadsAt (slotR 0 h).toLoadRect}
    {k : (S1x1024x128.Idx → Elt F .bf16) → Prog (TpuEff nD τ sig (Elt F) Λ₀ .tc) α}
    (hk : St m K c R ns kr nw ⊢ wpB c (k (blkOf m v (orig c 0))) Q) :
    St m K c R ns kr nw ⊢ wpB c (Prog.lift (.load (bM v) (slotR 0 h).toLoadRect hl) >>= k) Q := by
  refine load_slot m c v 0 h (q := q) ?_ hk
  unfold St
  iintro ⟨#Hrecs, #Hlev, HR, Hrest⟩
  ihave HR := hR $$ HR
  icases HR with ⟨H1, HR⟩
  isplitl [H1]; · iexact H1
  iintro H1
  isplitr; · iexact Hrecs
  isplitr; · iexact Hlev
  isplitl [HR H1]; · iapply HR; iexact H1
  iexact Hrest

end Cert.RingAttn
-- ==== Proof.Steps.lean ====
/-
The body's first operations — the barrier, the staged blocks, the device's own slots — and how what is left at the end
is the two buffers whole again.
-/
module

public import proofs.«01_k».proof.Proof.State

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × Cell → ℕ) (c : Dev nD) {α : Type}

/-! ## The barrier -/

/-- The two duties transfer `n` pays. -/
def sendDuty (n : ℕ) : sProp 𝕄 := iprop(dutyTok ER (sndCell c n) 0 false ∗ dutyTok ER (rcvCell (tgt n c) n) 0 false)

/-- What a device has when its body starts; `R` is whatever else. -/
def Start (R : sProp 𝕄) : sProp 𝕄 :=
  iprop(recs m K ∗ levAts L lv ∗ R ∗ ins m c ∗ (∃ W, owes (c : Thread nD τ) (O₀ c) W)
    ∗ (dutyTok ER (barCell (prv c)) 0 true ∗ dutyTok ER (barCell (nxt c)) 0 false ∗ cred (tallyAt (barCell c) () 2) ∗ atPos ER (barCell c) 0 ∅ 0)
    ∗ ((∃ f, wholePts false c f) ∗ (∃ f, wholePts true c f))
    ∗ bigSep (Finset.range 30) (sendDuty c) ∗ bigSep (Finset.range 30) (sndAt c) ∗ bigSep (Finset.range 30) (rcvTok c))

/-- Room for all transfers, and the duties, are what the starts take. -/
theorem tokens : iprop((barPay c false ∗ barPay c true) ∗ bigSep (Finset.range 30) (sendDuty (F := F) c))
    ⊢ bigSep (Finset.Ico 0 30) (sendTok (F := F) c) := by
  have h : iprop(barPay (F := F) c false ∗ barPay c true) ⊢ bigSep (Finset.range 30) (roomPts c) := by
    rw [bigSep_filter_split (Finset.range 30) (fun n => right n = true),
      show ((Finset.range 30).filter fun n => ¬ right n = true) = (Finset.range 30).filter fun n => right n = false from
        Finset.filter_congr fun n _ => Bool.not_eq_true _ ▸ Iff.rfl]
    exact sep_comm.1
  refine (sep_mono_left h).trans ?_
  rw [← Finset.range_eq_Ico, ← bigSep_sep']
  refine bigSep_mono fun n _ => ?_
  show iprop(roomPts c n ∗ sendDuty c n) ⊢ sendTok c n
  unfold sendTok sendDuty
  iintro ⟨H1, H2, H3⟩
  isplitl [H2]; · iexact H2
  isplitl [H3]; · iexact H3
  iexact H1

set_option maxHeartbeats 1000000 in
theorem st_barrier {Q : α → sProp 𝕄} {R : sProp 𝕄} (d₁ d₂ : Dev nD) (h1 : d₁ = prv c) (h2 : d₂ = nxt c) {k : PUnit → Prog (TpuEff nD τ sig (Elt F) Λ₀ .tc) α}
    (h : St m K c (iprop(slotAny false c 0 ∗ slotAny true c 0 ∗ semVal (barCell c) 0 ∗ R)) 0 0 0 ⊢ wpB c (k ⟨⟩) Q) :
    Start m K c R ⊢ wpB c (semSignalWord d₁ barS 1#32 >>= fun _ => semSignalWord d₂ barS 1#32 >>= fun _ => semWaitWord barS 2#32 >>= k) Q := by
  subst h1 h2
  have h0 : iprop(emp) ⊢ iprop(St m K c (iprop(slotAny false c 0 ∗ slotAny true c 0 ∗ semVal (barCell c) 0 ∗ R)) 0 0 0 -∗ wpB c (k ⟨⟩) Q) := by
    iintro - H; iapply h; iexact H
  refine (sep_emp (PROP := sProp 𝕄)).2.trans ((sep_mono_right h0).trans ?_)
  unfold wpB
  simp only [semSignalWord, semWaitWord, Prog.bind_op, Prog.bind_ret]
  unfold Start St
  iintro ⟨⟨#Hrecs, #Hlev, HR, Hins, ⟨%W, HO⟩, ⟨HtP, HtN, HcB, HatB⟩, ⟨⟨%f, Hf⟩, ⟨%g, Hg⟩⟩, Hsd, Hsa, Hrt⟩, Hk⟩
  ihave #HP := (recs_at m K (prv c, .inl ())) $$ Hrecs
  ihave #HN := (recs_at m K (nxt c, .inl ())) $$ Hrecs
  ihave #HB := (recs_at m K (c, .inl ())) $$ Hrecs
  icases HP with ⟨#HIP, #HrP⟩
  icases HN with ⟨#HIN, #HrN⟩
  icases HB with ⟨#HIB, #HrB⟩
  ihave Hrooms := (rooms (F := F) c f g) $$ [Hf Hg]
  · isplitl [Hf]; · iexact Hf
    iexact Hg
  icases Hrooms with ⟨Hk0, Hv0, HpP, HpN⟩
  unfold O₀
  iapply (Rounds.wp_signal 𝒱₀ ER (ringRd m) (c : Thread nD τ) none (dst := (prv c : Thread nD τ)) (κ := K (prv c, .inl ()))
      (d := true) (by rw [duties_bar]; exact Finset.mem_univ _) ((amount_bar m (prv c) true).trans (by decide)) () (O₁ c) rfl)
    $$ [HO HtP HpP]
  · isplitr; · iexact HIP
    isplitl [HO]; · iexact HO
    isplitl [HtP]; · iexact HtP
    isplitl [HpP]; · rw [payload_bar]; iexact HpP
    iexact HrP
  iintro HO
  unfold O₁
  iapply (Rounds.wp_signal 𝒱₀ ER (ringRd m) (c : Thread nD τ) none (dst := (nxt c : Thread nD τ)) (κ := K (nxt c, .inl ()))
      (d := false) (by rw [duties_bar]; exact Finset.mem_univ _) ((amount_bar m (nxt c) false).trans (by decide)) () (owed c 0) rfl)
    $$ [HO HtN HpN]
  · isplitr; · iexact HIN
    isplitl [HO]; · iexact HO
    isplitl [HtN]; · iexact HtN
    isplitl [HpN]; · rw [payload_bar]; iexact HpN
    iexact HrN
  iintro HO
  iapply (Rounds.wp_wait_rest_token 𝒱₀ ER (ringRd m) (c : Thread nD τ) none (κ := K (c, .inl ()))
      (wpE_semWait_eq 𝒱₀ (c : Thread nD τ) none Set.univ) (Set.mem_univ _) () (O := owed c 0) (W := W) (R := 0) (m := 0) (T := ∅)
      (by rw [expect_bar]; decide)) $$ [HcB HO HatB]
  · isplitr; · iexact HIB
    isplitl [HcB]; · iexact HcB
    isplitl [HO]; · iexact HO
    isplitr; · iapply (mayWait_owed c (.reg barS) 0 (by decide)); iexact Hlev
    iexact HatB
  iintro ⟨HO, HatB, -, Hpay⟩
  imod (Rounds.cell_close ER (ringRd m) (Set.mem_univ (K (c, .inl ()))) (fun h => h) (R := 0 + 1) (duties_later m (barCell c))) $$ [HatB] with HzB
  · isplitr; · iexact HIB
    iexact HatB
  ihave Hpay := (Entails.of_eq (rest_bar m c)) $$ Hpay
  ihave Htok := (tokens (F := F) c) $$ [Hpay Hsd]
  · isplitl [Hpay]; · iexact Hpay
    iexact Hsd
  iapply Hk
  isplitr; · iexact Hrecs
  isplitr; · iexact Hlev
  isplitl [Hk0 Hv0 HzB HR]
  · isplitl [Hk0]; · iexact Hk0
    isplitl [Hv0]; · iexact Hv0
    isplitl [HzB]; · iexact HzB
    iexact HR
  isplitl [Hins]; · iexact Hins
  isplitl [HO]; · iexists _; iexact HO
  isplitl [Htok]; · iexact Htok
  isplitr; · rw [Finset.Ico_self, bigSep_empty]; iempintro
  isplitl [Hsa]; · rw [← Finset.range_eq_Ico]; iexact Hsa
  isplitr; · rw [Finset.range_zero, bigSep_empty]; iempintro
  isplitr; · rw [Finset.range_zero, bigSep_empty]; iempintro
  isplitl [Hrt]; · rw [← Finset.range_eq_Ico]; iexact Hrt
  isplitr; · rw [Finset.range_zero, bigSep_empty]; iempintro
  rw [Finset.range_zero, bigSep_empty]; iempintro

/-! ## The staged blocks -/

/-- Loading a staged block. -/
theorem st_loadIn {Q : α → sProp 𝕄} {R : sProp 𝕄} {ns kr nw : ℕ} (b : Memref sig .tc .vmem S1024x128 .bf16) (r : LoadRect S1024x128)
    (X : Buf (Elt F) (b.view.loc (c : Thread nD τ))) (Y : r.shape.Idx → Elt F .bf16) (hY : b.view.readAt (Elt F) r X = Y)
    {hl : b.view.LoadsAt r}
    (hP : ins m c ⊢ iprop((b.view.loc (c : Thread nD τ) ↦{fullShare} X) ∗ ((b.view.loc (c : Thread nD τ) ↦{fullShare} X) -∗ ins m c)))
    {k : (r.shape.Idx → Elt F .bf16) → Prog (TpuEff nD τ sig (Elt F) Λ₀ .tc) α}
    (hk : St m K c R ns kr nw ⊢ wpB c (k Y) Q) :
    St m K c R ns kr nw ⊢ wpB c (Prog.lift (.load b r hl) >>= k) Q := by
  have h0 : iprop(emp) ⊢ iprop(St m K c R ns kr nw -∗ wpB c (k Y) Q) := by
    iintro - H; iapply hk; iexact H
  refine (sep_emp (PROP := sProp 𝕄)).2.trans ((sep_mono_right h0).trans ?_)
  unfold St
  iintro ⟨⟨#Hrecs, #Hlev, HR, Hins, Hrest⟩, Hk⟩
  ihave HP := hP $$ Hins
  icases HP with ⟨Hb, Hback⟩
  iapply (wp_load 𝒱₀ (c : Thread nD τ) none Set.univ (m := b) (r := r) (f := X) (Finset.subset_univ _)) $$ Hb
  iintro Hb
  rw [hY]
  iapply Hk
  isplitr; · iexact Hrecs
  isplitr; · iexact Hlev
  isplitl [HR]; · iexact HR
  isplitl [Hback Hb]; · iapply Hback; iexact Hb
  iexact Hrest

theorem ins_q : ins m c ⊢ iprop(stgPts c cc0_stg0_0 (qst m c) ∗ (stgPts c cc0_stg0_0 (qst m c) -∗ ins m c)) := by
  unfold ins
  iintro ⟨H0, H1, H2⟩
  isplitl [H0]; · iexact H0
  iintro H0
  isplitl [H0]; · iexact H0
  isplitl [H1]; · iexact H1
  iexact H2
theorem ins_k : ins m c ⊢ iprop(stgPts c cc0_stg1_0 (kst m c) ∗ (stgPts c cc0_stg1_0 (kst m c) -∗ ins m c)) := by
  unfold ins
  iintro ⟨H0, H1, H2⟩
  isplitl [H1]; · iexact H1
  iintro H1
  isplitl [H0]; · iexact H0
  isplitl [H1]; · iexact H1
  iexact H2
theorem ins_v : ins m c ⊢ iprop(stgPts c cc0_stg2_0 (vst m c) ∗ (stgPts c cc0_stg2_0 (vst m c) -∗ ins m c)) := by
  unfold ins
  iintro ⟨H0, H1, H2⟩
  isplitl [H2]; · iexact H2
  iintro H2
  isplitl [H0]; · iexact H0
  isplitl [H1]; · iexact H1
  iexact H2

/-! ## The own slots -/

/-- The load of an own slot before it is stored to: its value is not used. -/
theorem st_loadDead {Q : α → sProp 𝕄} {R : sProp 𝕄} {ns kr nw : ℕ} (v : Bool) (h : 0 < 16)
    {hl : (bM v).view.LoadsAt (slotR 0 h).toLoadRect}
    {k : (S1x1024x128.Idx → Elt F .bf16) → Prog (TpuEff nD τ sig (Elt F) Λ₀ .tc) α}
    (hk : ∀ x, St m K c (iprop(slotAny v c 0 ∗ R)) ns kr nw ⊢ wpB c (k x) Q) :
    St m K c (iprop(slotAny v c 0 ∗ R)) ns kr nw ⊢ wpB c (Prog.lift (.load (bM v) (slotR 0 h).toLoadRect hl) >>= k) Q := by
  have h0 : iprop(emp) ⊢ iprop(∀ x, St m K c (iprop(slotAny v c 0 ∗ R)) ns kr nw -∗ wpB c (k x) Q) := by
    iintro - %x H; iapply (hk x); iexact H
  refine (sep_emp (PROP := sProp 𝕄)).2.trans ((sep_mono_right h0).trans ?_)
  unfold St
  rw [slotAny_eq v c 0 h]
  iintro ⟨⟨#Hrecs, #Hlev, ⟨⟨%f, Hs⟩, HR⟩, Hrest⟩, Hk⟩
  unfold slotPts
  iapply (wp_load 𝒱₀ (c : Thread nD τ) none Set.univ (m := bM v) (r := (slotR 0 h).toLoadRect) (f := f) (load_sub v 0 h)) $$ Hs
  iintro Hs
  iapply Hk $$ %_ [Hs HR Hrest]
  isplitr; · iexact Hrecs
  isplitr; · iexact Hlev
  isplitl [HR Hs]
  · isplitl [Hs]; · iexists f; iexact Hs
    iexact HR
  iexact Hrest

/-- The store of the device's own block, lent at once to the two transfers `a`, `b` that take it to the
    neighbours, half of it being kept. -/
theorem st_storeOwn {Q : α → sProp 𝕄} {R : sProp 𝕄} {ns kr nw : ℕ} (v : Bool) (h : 0 < 16) (a b : ℕ)
    (ha : isV a = v ∧ srcS a = 0 ∧ lent a = fullShare.left.left) (hb : isV b = v ∧ srcS b = 0 ∧ lent b = fullShare.left.right)
    {w : S1x1024x128.Idx → Elt F .bf16} (hw : w = blkOf m v c)
    {hx : ((bM v).access (slotR 0 h)).Stores Finset.univ} {hm : (Finset.univ : Finset (slotR 0 h).shape.Idx) = Finset.univ ∨ ∀ a, (slotR 0 h).stride a = 1}
    {k : PUnit → Prog (TpuEff nD τ sig (Elt F) Λ₀ .tc) α}
    (hk : St m K c (iprop(srcPts m c a ∗ srcPts m c b ∗ R ∗ slotAt m v c 0 fullShare.right)) ns kr nw ⊢ wpB c (k ⟨⟩) Q) :
    St m K c (iprop(slotAny v c 0 ∗ R)) ns kr nw ⊢ wpB c (Prog.lift (.store (bM v) (slotR 0 h) w Finset.univ hx hm) >>= k) Q := by
  subst hw
  have hcut : slotAt m v c 0 fullShare ⊢ iprop(srcPts m c a ∗ srcPts m c b ∗ slotAt m v c 0 fullShare.right) := by
    unfold srcPts
    rw [ha.1, ha.2.1, ha.2.2, hb.1, hb.2.1, hb.2.2]
    iintro H
    ihave H := (slotAt_share m v c 0 fullShare).1 $$ H
    icases H with ⟨Hl, Hr⟩
    ihave H := (slotAt_share m v c 0 fullShare.left).1 $$ Hl
    icases H with ⟨Hll, Hlr⟩
    isplitl [Hll]; · iexact Hll
    isplitl [Hlr]; · iexact Hlr
    iexact Hr
  have h0 : iprop(emp) ⊢ iprop(St m K c (iprop(srcPts m c a ∗ srcPts m c b ∗ R ∗ slotAt m v c 0 fullShare.right)) ns kr nw -∗ wpB c (k ⟨⟩) Q) := by
    iintro - H; iapply hk; iexact H
  refine (sep_emp (PROP := sProp 𝕄)).2.trans ((sep_mono_right h0).trans ?_)
  unfold St
  rw [slotAny_eq v c 0 h]
  iintro ⟨⟨#Hrecs, #Hlev, ⟨⟨%f, Hs⟩, HR⟩, Hrest⟩, Hk⟩
  unfold slotPts
  rw [← access_set v 0 h]
  iapply (wp_store 𝒱₀ (c : Thread nD τ) none Set.univ (m := bM v) (r := slotR 0 h) (w := blkOf m v c) (Mk := Finset.univ) (hx := hx) (hm := hm) (f := f)
    (S := ((bM v).access (slotR 0 h)).set) (fun i hi => hi)) $$ Hs
  iintro Hs
  have e : (((bM v).access (slotR 0 h)).loc (c : Thread nD τ) ↦[((bM v).access (slotR 0 h)).set]{fullShare}
      ((bM v).access (slotR 0 h)).write (Elt F) f (blkOf m v c) Finset.univ : sProp 𝕄) = slotAt m v c 0 fullShare := by
    rw [slotAt_eq m v c 0 h, pointsTo_congr (stored m v c h f)]
    unfold slotPts
    exact congrArg (fun I => ((bM v).view.loc (c : Thread nD τ) ↦[I]{fullShare} fullB m v c : sProp 𝕄)) (access_set v 0 h)
  have e1 : iprop(((bM v).access (slotR 0 h)).loc (c : Thread nD τ) ↦[((bM v).access (slotR 0 h)).set]{fullShare}
      ((bM v).access (slotR 0 h)).write (Elt F) f (blkOf m v c) Finset.univ) ⊢ iprop(srcPts m c a ∗ srcPts m c b ∗ slotAt m v c 0 fullShare.right) := by
    rw [e]; exact hcut
  ihave Hs := e1 $$ Hs
  icases Hs with ⟨Ha, Hb, Hr⟩
  iapply Hk
  isplitr; · iexact Hrecs
  isplitr; · iexact Hlev
  isplitl [Ha Hb Hr HR]
  · isplitl [Ha]; · iexact Ha
    isplitl [Hb]; · iexact Hb
    isplitl [HR]; · iexact HR
    iexact Hr
  iexact Hrest

/-! ## The end -/

/-- The transfers that pass on what has arrived, by the arrivals they pass on. -/
theorem onward_range : Finset.range 30 = insert 0 (insert 1 (insert 2 (insert 3 (((Finset.range 30).filter fun n => fwd n = true).image onward)))) := by decide
theorem onward_inj : Set.InjOn onward ((Finset.range 30).filter fun n => fwd n = true : Finset ℕ) := by
  intro a ha b hb h
  have H : ∀ a < 30, ∀ b < 30, fwd a = true → fwd b = true → onward a = onward b → a = b := by decide
  obtain ⟨ha, fa⟩ := Finset.mem_filter.mp ha
  obtain ⟨hb, fb⟩ := Finset.mem_filter.mp hb
  exact H a (Finset.mem_range.mp ha) b (Finset.mem_range.mp hb) fa fb h
theorem onward_src : ∀ n < 30, fwd n = true → isV (onward n) = isV n ∧ srcS (onward n) = dstS n ∧ lent (onward n) = fullShare.left := by
  intro n hn hf
  have e : ∀ n < 30, fwd n = true → isV (onward n) = isV n ∧ srcS (onward n) = dstS n ∧ Nat.ble 4 (onward n) = true := by decide
  obtain ⟨e1, e2, e3⟩ := e n hn hf
  exact ⟨e1, e2, by unfold lent; rw [e3, cond_true]⟩

theorem regroup_left (A B C : sProp 𝕄) : iprop(A ∗ B ∗ C) ⊢ iprop((A ∗ B) ∗ C) := by
  iintro ⟨HA, HB, HC⟩
  isplitr [HC]
  · isplitl [HA]; · iexact HA
    iexact HB
  iexact HC

/-- The borrowed shares back and the kept ones make the two buffers whole, at their final contents. -/
theorem whole_again : iprop((slotAt m true c 0 fullShare.right ∗ slotAt m false c 0 fullShare.right)
      ∗ bigSep (Finset.range 30) (srcPts m c) ∗ bigSep (Finset.range 30) (kept m c))
    ⊢ iprop(wholePts false c (fullB m false c) ∗ wholePts true c (fullB m true c)) := by
  have hl : iprop(bigSep ((Finset.range 30).filter fun n => fwd n = true) (fun n => srcPts m c (onward n)) ∗ bigSep (Finset.range 30) (kept m c))
      ⊢ bigSep (Finset.range 30) fun n => slotAt m (isV n) c (dstS n) fullShare := by
    rw [bigSep_filter_split (Finset.range 30) (fun n => fwd n = true) (Φ := kept m c),
      bigSep_filter_split (Finset.range 30) (fun n => fwd n = true) (Φ := fun n => slotAt m (isV n) c (dstS n) fullShare)]
    refine (regroup_left _ _ _).trans (BIClass.sep_mono ?_ ?_)
    · rw [← bigSep_sep']
      refine bigSep_mono fun n hn => ?_
      obtain ⟨hn, hf⟩ := Finset.mem_filter.mp hn
      obtain ⟨e1, e2, e3⟩ := onward_src n (Finset.mem_range.mp hn) hf
      show iprop(srcPts m c (onward n) ∗ kept m c n) ⊢ slotAt m (isV n) c (dstS n) fullShare
      unfold srcPts kept
      rw [e1, e2, e3, hf, cond_true]
      exact (slotAt_share m (isV n) c (dstS n) fullShare).2
    · refine bigSep_mono fun n hn => ?_
      have hf := (Finset.mem_filter.mp hn).2
      unfold kept
      rw [Bool.eq_false_iff.mpr hf, cond_false]
      exact fun _ h => h
  have e : iprop(wholePts false c (fullB m false c) ∗ wholePts true c (fullB m true c))
      = iprop(slotAt m false c 0 fullShare ∗ slotAt m true c 0 fullShare ∗ bigSep (Finset.range 30) fun n => slotAt m (isV n) c (dstS n) fullShare) := by
    rw [whole_full, whole_full, ← slots_two (fun p => slotAt m p.1 c p.2 fullShare), slots_split]
  have e2 : bigSep (Finset.range 30) (srcPts m c) = iprop(srcPts m c 0 ∗ srcPts m c 1 ∗ srcPts m c 2 ∗ srcPts m c 3
      ∗ bigSep ((Finset.range 30).filter fun n => fwd n = true) (fun n => srcPts m c (onward n))) := by
    rw [onward_range, bigSep_insert (by decide), bigSep_insert (by decide), bigSep_insert (by decide), bigSep_insert (by decide),
      bigSep_image_of_injOn onward_inj]
    rfl
  have j0 : srcPts m c 0 = slotAt m false c 0 fullShare.left.left := rfl
  have j1 : srcPts m c 1 = slotAt m false c 0 fullShare.left.right := rfl
  have j2 : srcPts m c 2 = slotAt m true c 0 fullShare.left.left := rfl
  have j3 : srcPts m c 3 = slotAt m true c 0 fullShare.left.right := rfl
  rw [e, e2, j0, j1, j2, j3]
  iintro ⟨⟨Hv, Hk⟩, ⟨H0, H1, H2, H3, Hf⟩, Hkept⟩
  isplitl [Hk H0 H1]
  · iapply (slotAt_share m false c 0 fullShare).2
    isplitr [Hk]
    · iapply (slotAt_share m false c 0 fullShare.left).2
      isplitl [H0]; · iexact H0
      iexact H1
    iexact Hk
  isplitl [Hv H2 H3]
  · iapply (slotAt_share m true c 0 fullShare).2
    isplitr [Hv]
    · iapply (slotAt_share m true c 0 fullShare.left).2
      isplitl [H2]; · iexact H2
      iexact H3
    iexact Hv
  iapply hl
  isplitl [Hf]; · iexact Hf
  iexact Hkept

end Cert.RingAttn
-- ==== Proof.Body.lean ====
/-
The body run through on one device: from what the launch hands it to the two buffers full and the result in hand.
-/
module

public import proofs.«01_k».proof.Proof.Steps

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × Cell → ℕ) (c : Dev nD) {α β : Type}

theorem st_bind {Q : β → sProp 𝕄} {P : sProp 𝕄} {p : Prog (TpuEff nD τ sig (Elt F) Λ₀ .tc) α} {k : α → Prog (TpuEff nD τ sig (Elt F) Λ₀ .tc) β}
    (h : P ⊢ wpB c p (fun a => wpB c (k a) Q)) : P ⊢ wpB c (p >>= k) Q := by
  unfold wpB at h ⊢
  rw [wp_bind]; exact h

theorem st_ret {Q : α → sProp 𝕄} {P : sProp 𝕄} {a : α} (h : P ⊢ Q a) : P ⊢ wpB c (pure a : Prog (TpuEff nD τ sig (Elt F) Λ₀ .tc) α) Q := by
  unfold wpB
  rw [Prog.pure_eq_ret, wp_ret]
  exact h.trans fupd_intro

/-! ## The values -/

/-- The running maximum, the running sum of weights and the running weighted sum of rows, one of each per query. -/
structure Acc (F : FTy → Type) where
  m : FVec F S1024x1 .f32
  l : FVec F S1024x1 .f32
  a : FVec F S1024x128 .f32

/-- One block of keys `k` and values `v` taken in, for the queries `q`. -/
def step (q : FVec F S1024x128 .bf16) (k v : FVec F S1x1024x128 .bf16) (s : Acc F) : Acc F :=
  ⟨k0_pay14 q s.m k, k0_pay17 q s.m s.l k, k0_pay19 s.a (k0_pay16 q s.m k) (k0_pay18 q s.m k) v⟩

/-- The slots in the order their blocks are taken in. -/
def order : List ℕ := [0, 1, 9, 2, 10, 3, 11, 4, 12, 5, 13, 6, 14, 7, 15, 8]

/-- After the blocks of the slots `ss`. -/
def accAt (ss : List ℕ) : Acc F :=
  ss.foldl (fun s i => step (k0_pay5 (qst m c)) (blkOf m false (orig c i)) (blkOf m true (orig c i)) s) ⟨k0_pay2, k0_pay3, k0_pay4⟩

/-- What device `c` writes. -/
def outVal : FVec F S1024x128 .f32 := k0_pay122 (accAt m c order).l (accAt m c order).a

/-- What a device keeps of its own blocks beside the rest. -/
def Own (R : sProp 𝕄) : sProp 𝕄 := iprop(((semVal (barCell c) 0 ∗ R) ∗ slotAt m false c 0 fullShare.right) ∗ slotAt m true c 0 fullShare.right)

theorem own_k (R : sProp 𝕄) : Own m c R ⊢ iprop(slotAt m false c 0 fullShare.right ∗ (slotAt m false c 0 fullShare.right -∗ Own m c R)) := by
  unfold Own
  iintro ⟨⟨H, Hk⟩, Hv⟩
  isplitl [Hk]; · iexact Hk
  iintro Hk
  isplitr [Hv]
  · isplitl [H]; · iexact H
    iexact Hk
  iexact Hv
theorem own_v (R : sProp 𝕄) : Own m c R ⊢ iprop(slotAt m true c 0 fullShare.right ∗ (slotAt m true c 0 fullShare.right -∗ Own m c R)) := by
  unfold Own
  iintro ⟨H, Hv⟩
  isplitl [Hv]; · iexact Hv
  iintro Hv
  isplitl [H]; · iexact H
  iexact Hv

theorem own_swap (A R B : sProp 𝕄) : iprop((slotAny (F := F) true c 0 ∗ A ∗ R) ∗ B) ⊢ iprop(slotAny (F := F) true c 0 ∗ ((A ∗ R) ∗ B)) := by
  iintro ⟨⟨H, HA, HR⟩, HB⟩
  isplitl [H]; · iexact H
  isplitr [HB]
  · isplitl [HA]; · iexact HA
    iexact HR
  iexact HB

theorem zero_off : (![0, 0] : Fin 2 → ℕ) = fun _ => 0 := by decide

/-- A transfer's target device: the word arithmetic on the device number gives the neighbour. -/
theorem at_right : k0_dev3 c = (nxt c).val := by revert c; decide
theorem at_left : k0_dev4 c = (prv c).val := by revert c; decide
theorem at_bar₁ : (⟨k0_dev1 c, k0_dev1_lt c⟩ : Dev nD) = prv c := by revert c; decide
theorem at_bar₂ : (⟨k0_dev2 c, k0_dev2_lt c⟩ : Dev nD) = nxt c := by revert c; decide
/-- Every such computation ends in one of two closed forms, those of the first two transfers. -/
theorem at_dev {n : ℕ} {x y : ℕ} {h : x < nD} (e : x = y) (hn : (right n = true ∧ k0_dev3 c = y) ∨ (right n = false ∧ k0_dev4 c = y)) :
    (⟨x, h⟩ : Dev nD) = tgt n c := by
  refine Fin.ext ?_
  unfold tgt
  rcases hn with ⟨hr, hy⟩ | ⟨hr, hy⟩
  · rw [hr, cond_true]; exact e.trans (hy.symm.trans (at_right c))
  · rw [hr, cond_false]; exact e.trans (hy.symm.trans (at_left c))

/-- A part of the body that returns one value: the value is named, with what it is. -/
theorem st_ret1 {Q : α → sProp 𝕄} {P : sProp 𝕄} {a : α} (h : ∀ x, x = a → P ⊢ Q x) : P ⊢ wpB c (pure a : Prog (TpuEff nD τ sig (Elt F) Λ₀ .tc) α) Q :=
  st_ret c (h a rfl)
theorem st_ret2 {α₁ α₂ : Type} {Q : (Σ' _ : α₁, α₂) → sProp 𝕄} {P : sProp 𝕄} {a₁ : α₁} {a₂ : α₂}
    (h : ∀ x₁ x₂, x₁ = a₁ → x₂ = a₂ → P ⊢ Q ⟨x₁, x₂⟩) : P ⊢ wpB c (pure ⟨a₁, a₂⟩) Q := st_ret c (h _ _ rfl rfl)
theorem st_ret3 {α₁ α₂ α₃ : Type} {Q : (Σ' (_ : α₁) (_ : α₂), α₃) → sProp 𝕄} {P : sProp 𝕄} {a₁ : α₁} {a₂ : α₂} {a₃ : α₃}
    (h : ∀ x₁ x₂ x₃, x₁ = a₁ → x₂ = a₂ → x₃ = a₃ → P ⊢ Q ⟨x₁, x₂, x₃⟩) : P ⊢ wpB c (pure ⟨a₁, a₂, a₃⟩) Q := st_ret c (h _ _ _ rfl rfl rfl)
theorem st_ret4 {α₁ α₂ α₃ α₄ : Type} {Q : (Σ' (_ : α₁) (_ : α₂) (_ : α₃), α₄) → sProp 𝕄} {P : sProp 𝕄} {a₁ : α₁} {a₂ : α₂} {a₃ : α₃} {a₄ : α₄}
    (h : ∀ x₁ x₂ x₃ x₄, x₁ = a₁ → x₂ = a₂ → x₃ = a₃ → x₄ = a₄ → P ⊢ Q ⟨x₁, x₂, x₃, x₄⟩) : P ⊢ wpB c (pure ⟨a₁, a₂, a₃, a₄⟩) Q :=
  st_ret c (h _ _ _ _ rfl rfl rfl rfl)
theorem st_ret5 {α₁ α₂ α₃ α₄ α₅ : Type} {Q : (Σ' (_ : α₁) (_ : α₂) (_ : α₃) (_ : α₄), α₅) → sProp 𝕄} {P : sProp 𝕄} {a₁ : α₁} {a₂ : α₂} {a₃ : α₃} {a₄ : α₄} {a₅ : α₅}
    (h : ∀ x₁ x₂ x₃ x₄ x₅, x₁ = a₁ → x₂ = a₂ → x₃ = a₃ → x₄ = a₄ → x₅ = a₅ → P ⊢ Q ⟨x₁, x₂, x₃, x₄, x₅⟩) : P ⊢ wpB c (pure ⟨a₁, a₂, a₃, a₄, a₅⟩) Q :=
  st_ret c (h _ _ _ _ _ rfl rfl rfl rfl rfl)
theorem st_ret6 {α₁ α₂ α₃ α₄ α₅ α₆ : Type} {Q : (Σ' (_ : α₁) (_ : α₂) (_ : α₃) (_ : α₄) (_ : α₅), α₆) → sProp 𝕄} {P : sProp 𝕄} {a₁ : α₁} {a₂ : α₂} {a₃ : α₃} {a₄ : α₄}
    {a₅ : α₅} {a₆ : α₆} (h : ∀ x₁ x₂ x₃ x₄ x₅ x₆, x₁ = a₁ → x₂ = a₂ → x₃ = a₃ → x₄ = a₄ → x₅ = a₅ → x₆ = a₆ → P ⊢ Q ⟨x₁, x₂, x₃, x₄, x₅, x₆⟩) :
    P ⊢ wpB c (pure ⟨a₁, a₂, a₃, a₄, a₅, a₆⟩) Q := st_ret c (h _ _ _ _ _ _ rfl rfl rfl rfl rfl rfl)

set_option maxHeartbeats 4000000 in
set_option maxRecDepth 8000 in
theorem run_body {Q : FVec F S1024x128 .f32 → sProp 𝕄} {R : sProp 𝕄}
    (hQ : St m K c (Own m c R) 30 30 30 ⊢ Q (outVal m c)) :
    Start m K c R ⊢ wpB c (k0_part41 (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _) cc0_scratch2 cc0_scratch3) Q := by
  rw [k0_part41_eq_skeleton]; unfold k0_part41_skel
  refine st_bind c ?_
  rw [k0_part1_eq_skeleton]; unfold k0_part1_skel
  refine st_deviceId c ?_
  refine st_ret c ?_
  refine st_bind c ?_
  rw [k0_part2_eq_skeleton]; unfold k0_part2_skel
  refine st_ret2 c fun v32 v58 _ _ => ?_
  refine st_bind c ?_
  rw [k0_part3_eq_skeleton]; unfold k0_part3_skel
  refine st_barrier m K c _ _ (at_bar₁ c) (at_bar₂ c) ?_
  refine st_loadIn m K c (Memref.whole cc0_stg1_0) _ (kst m c) (kst m c) (Memref.readAt_unit_zero (Elt F) cc0_stg1_0 zero_off _ _) (ins_k m c) ?_
  refine st_loadDead m K c false (by decide) fun _ => ?_
  refine st_storeOwn m K c false (by decide) 0 1 (by decide) (by decide) rfl ?_
  refine st_ret4 c fun v62 v73 v74 v75 _ h73 h74 h75 => ?_
  refine st_bind c ?_
  rw [k0_part4_eq_skeleton]; unfold k0_part4_skel
  refine st_send m K c _ (by decide) _ (at_dev c (k0_dev3_eq c) (.inl ⟨rfl, k0_dev3_eq c⟩)) (by decide) (by decide) (by decide) ?_
  refine st_send m K c _ (by decide) _ (at_dev c (k0_dev4_eq c) (.inr ⟨rfl, k0_dev4_eq c⟩)) (by decide) (by decide) (by decide) ?_
  refine st_loadIn m K c (Memref.whole cc0_stg0_0) _ (qst m c) (qst m c) (Memref.readAt_unit_zero (Elt F) cc0_stg0_0 zero_off _ _) (ins_q m c) ?_
  refine st_loadIn m K c (Memref.whole cc0_stg2_0) _ (vst m c) (vst m c) (Memref.readAt_unit_zero (Elt F) cc0_stg2_0 zero_off _ _) (ins_v m c) ?_
  refine (st_frame m K c (own_swap c _ _ _)).trans ?_
  refine st_loadDead m K c true (by decide) fun _ => ?_
  refine st_storeOwn m K c true (by decide) 2 3 (by decide) (by decide) rfl ?_
  refine st_send m K c _ (by decide) _ (at_dev c (k0_dev5_eq c) (.inl ⟨rfl, k0_dev3_eq c⟩)) (by decide) (by decide) (by decide) ?_
  refine st_ret1 c fun v97 h97 => ?_
  refine st_bind c ?_
  rw [k0_part5_eq_skeleton]; unfold k0_part5_skel
  refine st_send m K c _ (by decide) _ (at_dev c (k0_dev6_eq c) (.inr ⟨rfl, k0_dev4_eq c⟩)) (by decide) (by decide) (by decide) ?_
  change St m K c (Own m c R) _ _ _ ⊢ _
  refine st_load_own m K c false (by decide) (own_k m c R) ?_
  refine st_load_own m K c true (by decide) (own_v m c R) ?_
  refine st_ret4 c fun v130 v139 v146 _ h130 h139 h146 _ => ?_
  -- the ring
  refine st_bind c ?_
  rw [k0_part6_eq_skeleton]; unfold k0_part6_skel
  refine st_recv_on m K c 0 4 (by decide) (by decide) (by decide) rfl ?_
  refine st_send m K c 4 (by decide) _ (at_dev c (k0_dev7_eq c) (.inl ⟨rfl, k0_dev3_eq c⟩)) (by decide) (by decide) (by decide) ?_
  refine st_recv_on m K c 1 5 (by decide) (by decide) (by decide) rfl ?_
  refine st_ret1 c fun _ _ => ?_
  refine st_bind c ?_
  rw [k0_part7_eq_skeleton]; unfold k0_part7_skel
  refine st_send m K c 5 (by decide) _ (at_dev c (k0_dev8_eq c) (.inr ⟨rfl, k0_dev4_eq c⟩)) (by decide) (by decide) (by decide) ?_
  refine st_load m K c false _ (by decide) (by decide) (by decide) ?_
  refine st_recv_on m K c 2 6 (by decide) (by decide) (by decide) rfl ?_
  refine st_ret4 c fun v190 v195 v199 v200 h190 h195 h199 h200 => ?_
  refine st_bind c ?_
  rw [k0_part8_eq_skeleton]; unfold k0_part8_skel
  refine st_send m K c 6 (by decide) _ (at_dev c (k0_dev9_eq c) (.inl ⟨rfl, k0_dev3_eq c⟩)) (by decide) (by decide) (by decide) ?_
  refine st_load m K c true _ (by decide) (by decide) (by decide) ?_
  refine st_load m K c false _ (by decide) (by decide) (by decide) ?_
  refine st_ret6 c fun v224 v232 v237 v241 v242 _ h224 h232 h237 h241 h242 _ => ?_
  refine st_bind c ?_
  rw [k0_part9_eq_skeleton]; unfold k0_part9_skel
  refine st_recv_on m K c 3 7 (by decide) (by decide) (by decide) rfl ?_
  refine st_send m K c 7 (by decide) _ (at_dev c (k0_dev10_eq c) (.inr ⟨rfl, k0_dev4_eq c⟩)) (by decide) (by decide) (by decide) ?_
  refine st_load m K c true _ (by decide) (by decide) (by decide) ?_
  refine st_ret1 c fun v266 h266 => ?_
  refine st_bind c ?_
  rw [k0_part10_eq_skeleton]; unfold k0_part10_skel
  refine st_recv_on m K c 4 8 (by decide) (by decide) (by decide) rfl ?_
  refine st_send m K c 8 (by decide) _ (at_dev c (k0_dev11_eq c) (.inl ⟨rfl, k0_dev3_eq c⟩)) (by decide) (by decide) (by decide) ?_
  refine st_recv_on m K c 5 9 (by decide) (by decide) (by decide) rfl ?_
  refine st_ret c ?_
  refine st_bind c ?_
  rw [k0_part11_eq_skeleton]; unfold k0_part11_skel
  refine st_send m K c 9 (by decide) _ (at_dev c (k0_dev12_eq c) (.inr ⟨rfl, k0_dev4_eq c⟩)) (by decide) (by decide) (by decide) ?_
  refine st_load m K c false _ (by decide) (by decide) (by decide) ?_
  refine st_recv_on m K c 6 10 (by decide) (by decide) (by decide) rfl ?_
  refine st_ret4 c fun v310 v315 v319 v320 h310 h315 h319 h320 => ?_
  refine st_bind c ?_
  rw [k0_part12_eq_skeleton]; unfold k0_part12_skel
  refine st_send m K c 10 (by decide) _ (at_dev c (k0_dev13_eq c) (.inl ⟨rfl, k0_dev3_eq c⟩)) (by decide) (by decide) (by decide) ?_
  refine st_load m K c true _ (by decide) (by decide) (by decide) ?_
  refine st_load m K c false _ (by decide) (by decide) (by decide) ?_
  refine st_ret5 c fun v344 v352 v357 v361 v362 h344 h352 h357 h361 h362 => ?_
  refine st_bind c ?_
  rw [k0_part13_eq_skeleton]; unfold k0_part13_skel
  refine st_recv_on m K c 7 11 (by decide) (by decide) (by decide) rfl ?_
  refine st_send m K c 11 (by decide) _ (at_dev c (k0_dev14_eq c) (.inr ⟨rfl, k0_dev4_eq c⟩)) (by decide) (by decide) (by decide) ?_
  refine st_load m K c true _ (by decide) (by decide) (by decide) ?_
  refine st_recv_on m K c 8 12 (by decide) (by decide) (by decide) rfl ?_
  refine st_ret2 c fun v386 _ h386 _ => ?_
  refine st_bind c ?_
  rw [k0_part14_eq_skeleton]; unfold k0_part14_skel
  refine st_send m K c 12 (by decide) _ (at_dev c (k0_dev15_eq c) (.inl ⟨rfl, k0_dev3_eq c⟩)) (by decide) (by decide) (by decide) ?_
  refine st_recv_on m K c 9 13 (by decide) (by decide) (by decide) rfl ?_
  refine st_send m K c 13 (by decide) _ (at_dev c (k0_dev16_eq c) (.inr ⟨rfl, k0_dev4_eq c⟩)) (by decide) (by decide) (by decide) ?_
  refine st_load m K c false _ (by decide) (by decide) (by decide) ?_
  refine st_ret1 c fun v424 h424 => ?_
  refine st_bind c ?_
  rw [k0_part15_eq_skeleton]; unfold k0_part15_skel
  refine st_recv_on m K c 10 14 (by decide) (by decide) (by decide) rfl ?_
  refine st_send m K c 14 (by decide) _ (at_dev c (k0_dev17_eq c) (.inl ⟨rfl, k0_dev3_eq c⟩)) (by decide) (by decide) (by decide) ?_
  refine st_ret4 c fun v430 v435 v439 v440 h430 h435 h439 h440 => ?_
  refine st_bind c ?_
  rw [k0_part16_eq_skeleton]; unfold k0_part16_skel
  refine st_load m K c true _ (by decide) (by decide) (by decide) ?_
  refine st_load m K c false _ (by decide) (by decide) (by decide) ?_
  refine st_recv_on m K c 11 15 (by decide) (by decide) (by decide) rfl ?_
  refine st_ret6 c fun v464 v472 v477 v481 v482 _ h464 h472 h477 h481 h482 _ => ?_
  refine st_bind c ?_
  rw [k0_part17_eq_skeleton]; unfold k0_part17_skel
  refine st_send m K c 15 (by decide) _ (at_dev c (k0_dev18_eq c) (.inr ⟨rfl, k0_dev4_eq c⟩)) (by decide) (by decide) (by decide) ?_
  refine st_load m K c true _ (by decide) (by decide) (by decide) ?_
  refine st_recv_on m K c 12 16 (by decide) (by decide) (by decide) rfl ?_
  refine st_ret1 c fun v506 h506 => ?_
  refine st_bind c ?_
  rw [k0_part18_eq_skeleton]; unfold k0_part18_skel
  refine st_send m K c 16 (by decide) _ (at_dev c (k0_dev19_eq c) (.inl ⟨rfl, k0_dev3_eq c⟩)) (by decide) (by decide) (by decide) ?_
  refine st_recv_on m K c 13 17 (by decide) (by decide) (by decide) rfl ?_
  refine st_send m K c 17 (by decide) _ (at_dev c (k0_dev20_eq c) (.inr ⟨rfl, k0_dev4_eq c⟩)) (by decide) (by decide) (by decide) ?_
  refine st_load m K c false _ (by decide) (by decide) (by decide) ?_
  refine st_ret3 c fun v547 v550 v551 h547 h550 h551 => ?_
  refine st_bind c ?_
  rw [k0_part19_eq_skeleton]; unfold k0_part19_skel
  refine st_recv_on m K c 14 18 (by decide) (by decide) (by decide) rfl ?_
  refine st_send m K c 18 (by decide) _ (at_dev c (k0_dev21_eq c) (.inl ⟨rfl, k0_dev3_eq c⟩)) (by decide) (by decide) (by decide) ?_
  refine st_load m K c true _ (by decide) (by decide) (by decide) ?_
  refine st_ret2 c fun v559 v584 h559 h584 => ?_
  refine st_bind c ?_
  rw [k0_part20_eq_skeleton]; unfold k0_part20_skel
  refine st_load m K c false _ (by decide) (by decide) (by decide) ?_
  refine st_recv_on m K c 15 19 (by decide) (by decide) (by decide) rfl ?_
  refine st_ret4 c fun v592 v597 v601 v602 h592 h597 h601 h602 => ?_
  refine st_bind c ?_
  rw [k0_part21_eq_skeleton]; unfold k0_part21_skel
  refine st_send m K c 19 (by decide) _ (at_dev c (k0_dev22_eq c) (.inr ⟨rfl, k0_dev4_eq c⟩)) (by decide) (by decide) (by decide) ?_
  refine st_load m K c true _ (by decide) (by decide) (by decide) ?_
  refine st_recv_on m K c 16 20 (by decide) (by decide) (by decide) rfl ?_
  refine st_send m K c 20 (by decide) _ (at_dev c (k0_dev23_eq c) (.inl ⟨rfl, k0_dev3_eq c⟩)) (by decide) (by decide) (by decide) ?_
  refine st_ret2 c fun v626 _ h626 _ => ?_
  refine st_bind c ?_
  rw [k0_part22_eq_skeleton]; unfold k0_part22_skel
  refine st_recv_on m K c 17 21 (by decide) (by decide) (by decide) rfl ?_
  refine st_send m K c 21 (by decide) _ (at_dev c (k0_dev24_eq c) (.inr ⟨rfl, k0_dev4_eq c⟩)) (by decide) (by decide) (by decide) ?_
  refine st_load m K c false _ (by decide) (by decide) (by decide) ?_
  refine st_ret4 c fun v670 v675 v679 v680 h670 h675 h679 h680 => ?_
  refine st_bind c ?_
  rw [k0_part23_eq_skeleton]; unfold k0_part23_skel
  refine st_recv_on m K c 18 22 (by decide) (by decide) (by decide) rfl ?_
  refine st_send m K c 22 (by decide) _ (at_dev c (k0_dev25_eq c) (.inl ⟨rfl, k0_dev3_eq c⟩)) (by decide) (by decide) (by decide) ?_
  refine st_load m K c true _ (by decide) (by decide) (by decide) ?_
  refine st_load m K c false _ (by decide) (by decide) (by decide) ?_
  refine st_ret2 c fun v704 v709 h704 h709 => ?_
  refine st_bind c ?_
  rw [k0_part24_eq_skeleton]; unfold k0_part24_skel
  refine st_recv_on m K c 19 23 (by decide) (by decide) (by decide) rfl ?_
  refine st_send m K c 23 (by decide) _ (at_dev c (k0_dev26_eq c) (.inr ⟨rfl, k0_dev4_eq c⟩)) (by decide) (by decide) (by decide) ?_
  refine st_load m K c true _ (by decide) (by decide) (by decide) ?_
  refine st_ret5 c fun v712 v717 v721 v722 v742 h712 h717 h721 h722 h742 => ?_
  refine st_bind c ?_
  rw [k0_part25_eq_skeleton]; unfold k0_part25_skel
  refine st_recv_on m K c 20 24 (by decide) (by decide) (by decide) rfl ?_
  refine st_send m K c 24 (by decide) _ (at_dev c (k0_dev27_eq c) (.inl ⟨rfl, k0_dev3_eq c⟩)) (by decide) (by decide) (by decide) ?_
  refine st_ret1 c fun v746 h746 => ?_
  refine st_bind c ?_
  rw [k0_part26_eq_skeleton]; unfold k0_part26_skel
  refine st_recv_on m K c 21 25 (by decide) (by decide) (by decide) rfl ?_
  refine st_send m K c 25 (by decide) _ (at_dev c (k0_dev28_eq c) (.inr ⟨rfl, k0_dev4_eq c⟩)) (by decide) (by decide) (by decide) ?_
  refine st_load m K c false _ (by decide) (by decide) (by decide) ?_
  refine st_ret4 c fun v790 v795 v799 v800 h790 h795 h799 h800 => ?_
  refine st_bind c ?_
  rw [k0_part27_eq_skeleton]; unfold k0_part27_skel
  refine st_recv_on m K c 22 26 (by decide) (by decide) (by decide) rfl ?_
  refine st_send m K c 26 (by decide) _ (at_dev c (k0_dev29_eq c) (.inl ⟨rfl, k0_dev3_eq c⟩)) (by decide) (by decide) (by decide) ?_
  refine st_load m K c true _ (by decide) (by decide) (by decide) ?_
  refine st_load m K c false _ (by decide) (by decide) (by decide) ?_
  refine st_ret5 c fun v824 v832 v835 v837 v838 h824 h832 h835 h837 h838 => ?_
  refine st_bind c ?_
  rw [k0_part28_eq_skeleton]; unfold k0_part28_skel
  refine st_recv_on m K c 23 27 (by decide) (by decide) (by decide) rfl ?_
  refine st_send m K c 27 (by decide) _ (at_dev c (k0_dev30_eq c) (.inr ⟨rfl, k0_dev4_eq c⟩)) (by decide) (by decide) (by decide) ?_
  refine st_load m K c true _ (by decide) (by decide) (by decide) ?_
  refine st_ret3 c fun v841 v866 _ h841 h866 _ => ?_
  refine st_bind c ?_
  rw [k0_part29_eq_skeleton]; unfold k0_part29_skel
  refine st_recv_on m K c 24 28 (by decide) (by decide) (by decide) rfl ?_
  refine st_send m K c 28 (by decide) _ (at_dev c (k0_dev31_eq c) (.inl ⟨rfl, k0_dev3_eq c⟩)) (by decide) (by decide) (by decide) ?_
  refine st_recv_end m K c 25 29 (by decide) (by decide) (by decide) rfl ?_
  refine st_load m K c false _ (by decide) (by decide) (by decide) ?_
  refine st_ret2 c fun v894 _ h894 _ => ?_
  refine st_bind c ?_
  rw [k0_part30_eq_skeleton]; unfold k0_part30_skel
  refine st_recv_on m K c 26 29 (by decide) (by decide) (by decide) rfl ?_
  refine st_send m K c 29 (by decide) _ (at_dev c (k0_dev32_eq c) (.inl ⟨rfl, k0_dev3_eq c⟩)) (by decide) (by decide) (by decide) ?_
  refine st_ret4 c fun v900 v905 v909 v910 h900 h905 h909 h910 => ?_
  refine st_bind c ?_
  rw [k0_part31_eq_skeleton]; unfold k0_part31_skel
  refine st_load m K c true _ (by decide) (by decide) (by decide) ?_
  refine st_load m K c false _ (by decide) (by decide) (by decide) ?_
  refine st_recv_end m K c 27 30 (by decide) (by decide) (by decide) rfl ?_
  refine st_load m K c true _ (by decide) (by decide) (by decide) ?_
  refine st_ret5 c fun v942 v951 v952 v962 v964 h942 h951 h952 h962 h964 => ?_
  refine st_bind c ?_
  rw [k0_part32_eq_skeleton]; unfold k0_part32_skel
  refine st_recv_end m K c 28 30 (by decide) (by decide) (by decide) rfl ?_
  refine st_load m K c false _ (by decide) (by decide) (by decide) ?_
  refine st_ret4 c fun v966 v987 v991 v992 h966 h987 h991 h992 => ?_
  refine st_bind c ?_
  rw [k0_part33_eq_skeleton]; unfold k0_part33_skel
  refine st_recv_end m K c 29 30 (by decide) (by decide) (by decide) rfl ?_
  refine st_load m K c true _ (by decide) (by decide) (by decide) ?_
  refine st_waitSend m K c 0 (by decide) rfl ?_
  refine st_waitSend m K c 1 (by decide) rfl ?_
  refine st_ret1 c fun v1006 h1006 => ?_
  refine st_bind c ?_
  rw [k0_part34_eq_skeleton]; unfold k0_part34_skel
  refine st_waitSend m K c 2 (by decide) rfl ?_
  refine st_waitSend m K c 3 (by decide) rfl ?_
  refine st_waitSend m K c 4 (by decide) rfl ?_
  refine st_waitSend m K c 5 (by decide) rfl ?_
  refine st_ret c ?_
  refine st_bind c ?_
  rw [k0_part35_eq_skeleton]; unfold k0_part35_skel
  refine st_waitSend m K c 6 (by decide) rfl ?_
  refine st_waitSend m K c 7 (by decide) rfl ?_
  refine st_waitSend m K c 8 (by decide) rfl ?_
  refine st_waitSend m K c 9 (by decide) rfl ?_
  refine st_ret c ?_
  refine st_bind c ?_
  rw [k0_part36_eq_skeleton]; unfold k0_part36_skel
  refine st_waitSend m K c 10 (by decide) rfl ?_
  refine st_waitSend m K c 11 (by decide) rfl ?_
  refine st_waitSend m K c 12 (by decide) rfl ?_
  refine st_waitSend m K c 13 (by decide) rfl ?_
  refine st_ret c ?_
  refine st_bind c ?_
  rw [k0_part37_eq_skeleton]; unfold k0_part37_skel
  refine st_waitSend m K c 14 (by decide) rfl ?_
  refine st_waitSend m K c 15 (by decide) rfl ?_
  refine st_waitSend m K c 16 (by decide) rfl ?_
  refine st_ret c ?_
  refine st_bind c ?_
  rw [k0_part38_eq_skeleton]; unfold k0_part38_skel
  refine st_waitSend m K c 17 (by decide) rfl ?_
  refine st_waitSend m K c 18 (by decide) rfl ?_
  refine st_waitSend m K c 19 (by decide) rfl ?_
  refine st_waitSend m K c 20 (by decide) rfl ?_
  refine st_ret c ?_
  refine st_bind c ?_
  rw [k0_part39_eq_skeleton]; unfold k0_part39_skel
  refine st_waitSend m K c 21 (by decide) rfl ?_
  refine st_waitSend m K c 22 (by decide) rfl ?_
  refine st_waitSend m K c 23 (by decide) rfl ?_
  refine st_waitSend m K c 24 (by decide) rfl ?_
  refine st_ret c ?_
  refine st_bind c ?_
  rw [k0_part40_eq_skeleton]; unfold k0_part40_skel
  refine st_waitSend m K c 25 (by decide) rfl ?_
  refine st_waitSend m K c 26 (by decide) rfl ?_
  refine st_waitSend m K c 27 (by decide) rfl ?_
  refine st_waitSend m K c 28 (by decide) rfl ?_
  refine st_ret c ?_
  refine st_waitSend m K c 29 (by decide) rfl ?_
  refine st_ret c ?_
  have e : k0_pay122 v991 v1006 = outVal m c := by
    clear hQ
    subst_vars
    rfl
  rw [e]
  exact hQ

end Cert.RingAttn
-- ==== Proof.Oblig.lean ====
/-
The body as the launch asks for it: what it starts with, what it leaves, and what it writes.
-/
module

public import proofs.«01_k».proof.Proof.Body

@[expose] public section

noncomputable section

namespace Cert.RingAttn

open Cert.KernelIdeal Cert.KernelIdeal.Gen
open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × Cell → ℕ) (c : Dev nD) {α β : Type}

/-! ## The result written -/

/-- The result's staging buffer at whatever it holds. -/
def outAny : sProp 𝕄 := iprop(∃ f : (cc0_stg3_0 : Ref sig .tc).ty.Contents (Elt F), stgPts c cc0_stg3_0 f)

theorem st_writeOut {Q : PUnit → sProp 𝕄} (w : FVec F S1024x128 .f32)
    (hl : (Memref.whole cc0_stg3_0 : Memref sig .tc .vmem S1024x128 .f32).view.LoadsAt (Rect.unit (s := S1024x128) ![0, 0] S1024x128.size inb_S1024x128_S1024x128_0_0).toLoadRect)
    (hx : ((Memref.whole cc0_stg3_0 : Memref sig .tc .vmem S1024x128 .f32).access (Rect.unit (s := S1024x128) ![0, 0] S1024x128.size inb_S1024x128_S1024x128_0_0)).Stores Finset.univ)
    (hm : (Finset.univ : Finset (Rect.unit (s := S1024x128) ![0, 0] S1024x128.size inb_S1024x128_S1024x128_0_0).shape.Idx) = Finset.univ
      ∨ ∀ a, (Rect.unit (s := S1024x128) ![0, 0] S1024x128.size inb_S1024x128_S1024x128_0_0).stride a = 1)
    (h : St m K c (Own m c (stgPts c cc0_stg3_0 w)) 30 30 30 ⊢ Q ⟨⟩) :
    St m K c (Own m c (outAny c)) 30 30 30
      ⊢ wpB c (Prog.lift (.load (Memref.whole cc0_stg3_0 : Memref sig .tc .vmem S1024x128 .f32) (Rect.unit (s := S1024x128) ![0, 0] S1024x128.size inb_S1024x128_S1024x128_0_0).toLoadRect hl) >>= fun _ =>
        Prog.lift (.store (Memref.whole cc0_stg3_0 : Memref sig .tc .vmem S1024x128 .f32) (Rect.unit (s := S1024x128) ![0, 0] S1024x128.size inb_S1024x128_S1024x128_0_0) w Finset.univ hx hm) >>= fun _ => pure ⟨⟩) Q := by
  have h0 : iprop(emp) ⊢ iprop(St m K c (Own m c (stgPts c cc0_stg3_0 w)) 30 30 30 -∗ wpB c (pure ⟨⟩) Q) := by
    iintro - H; iapply (st_ret c h); iexact H
  refine (sep_emp (PROP := sProp 𝕄)).2.trans ((sep_mono_right h0).trans ?_)
  unfold St Own outAny
  iintro ⟨⟨#Hrecs, #Hlev, ⟨⟨⟨Hz, ⟨%f, Hout⟩⟩, Hok⟩, Hov⟩, Hrest⟩, Hk⟩
  iapply (wp_load 𝒱₀ (c : Thread nD τ) none Set.univ (m := (Memref.whole cc0_stg3_0 : Memref sig .tc .vmem S1024x128 .f32))
    (r := (Rect.unit (s := S1024x128) ![0, 0] S1024x128.size inb_S1024x128_S1024x128_0_0).toLoadRect) (f := f) (Finset.subset_univ _)) $$ Hout
  iintro Hout
  iapply (wp_store 𝒱₀ (c : Thread nD τ) none Set.univ (m := (Memref.whole cc0_stg3_0 : Memref sig .tc .vmem S1024x128 .f32))
    (r := Rect.unit (s := S1024x128) ![0, 0] S1024x128.size inb_S1024x128_S1024x128_0_0) (w := w) (Mk := Finset.univ) (hx := hx) (hm := hm) (f := f) (Finset.subset_univ _)) $$ Hout
  iintro Hout
  rw [show ((Memref.whole cc0_stg3_0 : Memref sig .tc .vmem S1024x128 .f32).access (Rect.unit (s := S1024x128) ![0, 0] S1024x128.size inb_S1024x128_S1024x128_0_0)).write (Elt F) f w Finset.univ = w
    from Memref.write_access_unit_zero_univ (Elt F) cc0_stg3_0 zero_off _ f w]
  iapply Hk
  isplitr; · iexact Hrecs
  isplitr; · iexact Hlev
  isplitl [Hz Hout Hok Hov]
  · isplitr [Hov]
    · isplitr [Hok]
      · isplitl [Hz]; · iexact Hz
        iexact Hout
      iexact Hok
    iexact Hov
  iexact Hrest

set_option maxRecDepth 8000 in
/-- The whole body. -/
theorem run_all {Q : PUnit → sProp 𝕄} (h : St m K c (Own m c (stgPts c cc0_stg3_0 (outVal m c))) 30 30 30 ⊢ Q ⟨⟩) :
    Start m K c (outAny c) ⊢ wpB c (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _) cc0_scratch2 cc0_scratch3) Q := by
  rw [cc0_body_eq_skeleton]; unfold cc0_body_skel
  refine st_bind c ?_
  refine run_body m K c ?_
  exact st_writeOut m K c (outVal m c) _ _ _ h

/-! ## The launch's terms -/

/-- The duties a device pays, its positions, and the records all devices share. -/
def ghost : sProp 𝕄 :=
  iprop(recs m K ∗ (dutyTok ER (barCell (prv c)) 0 true ∗ dutyTok ER (barCell (nxt c)) 0 false ∗ bigSep (Finset.range 30) (sendDuty c))
    ∗ atPos ER (barCell c) 0 ∅ 0 ∗ bigSep (Finset.range 30) (sndAt c) ∗ bigSep (Finset.range 30) fun n => atPos ER (rcvCell c n) 0 ∅ 0)
def G' : sProp 𝕄 := iprop(∃ K, ghost m K c)

/-- What is owed to a device at launch: two units at its barrier, a block's worth at each receive cell. -/
def credits : sProp 𝕄 := iprop(cred (tallyAt (barCell c) () 2) ∗ bigSep (Finset.range 30) fun n => cred (tallyAt (rcvCell c n) () N))

def start : sProp 𝕄 := iprop(G' m c ∗ credits c ∗ levAts L lv)

/-- The two slot buffers at whatever they hold. -/
def scr : sProp 𝕄 := iprop((∃ f, wholePts (F := F) false c f) ∗ (∃ f, wholePts (F := F) true c f))

def Φ₀ : sProp 𝕄 := iprop(start m c ∗ scr c)
def Φ₁ : sProp 𝕄 := iprop(scr c ∗ semVal (barCell c) 0 ∗ bigSep (Finset.range 30) (sndZ c) ∗ bigSep (Finset.range 30) (rcvZ c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => qst m c
    | ⟨1, _⟩ => kst m c
    | ⟨2, _⟩ => vst m c
    | ⟨3, _⟩ => outVal m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPost : sProp 𝕄 :=
  iprop(Φ₁ c ∗ (dats m ρ 0 c).owesAt () t0_0.succ ∗ stg c cc0_stg0_0 (qst m c) ∗ stg c cc0_stg1_0 (kst m c) ∗ stg c cc0_stg2_0 (vst m c) ∗ stg c cc0_stg3_0 (outVal m c))

theorem leave : St m K c (Own m c (stgPts c cc0_stg3_0 (outVal m c))) 30 30 30 ⊢ bodyPost m ρ c := by
  unfold St Own bodyPost Φ₁ scr ins
  iintro ⟨-, -, ⟨⟨⟨Hz, Hout⟩, Hok⟩, Hov⟩, ⟨Hq, Hk, Hv⟩, ⟨%W, HO⟩, -, -, -, Hsz, Hsrc, -, Hrz, Hkept⟩
  ihave Hw := (whole_again m c) $$ [Hok Hov Hsrc Hkept]
  · isplitl [Hok Hov]
    · isplitl [Hov]; · iexact Hov
      iexact Hok
    isplitl [Hsrc]; · iexact Hsrc
    iexact Hkept
  icases Hw with ⟨Hw1, Hw2⟩
  isplitl [Hz Hsz Hrz Hw1 Hw2]
  · isplitl [Hw1 Hw2]
    · isplitl [Hw1]; · iexists _; iexact Hw1
      iexists _; iexact Hw2
    isplitl [Hz]; · iexact Hz
    isplitl [Hsz]; · iexact Hsz
    iexact Hrz
  isplitl [HO]
  · unfold Dat.owesAt Pipeline.owesWithin
    iexists W
    isplitr; · ipureintro; exact fun _ _ => Or.inl trivial
    iexact HO
  isplitl [Hq]
  · iexists _; isplitr; · (ipureintro; rfl)
    iexact Hq
  isplitl [Hk]
  · iexists _; isplitr; · (ipureintro; rfl)
    iexact Hk
  isplitl [Hv]
  · iexists _; isplitr; · (ipureintro; rfl)
    iexact Hv
  iexists _; isplitr; · (ipureintro; rfl)
  iexact Hout

theorem owns_whole_eq (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem before_q (d) : (dats (F := F) m ρ 0 c).before (0 : Fin 4) t0_0 d = qst m c := by
  unfold Dat.before; rw [if_pos (by rfl)]; rfl
theorem before_k (d) : (dats (F := F) m ρ 0 c).before (1 : Fin 4) t0_0 d = kst m c := by
  unfold Dat.before; rw [if_pos (by rfl)]; rfl
theorem before_v (d) : (dats (F := F) m ρ 0 c).before (2 : Fin 4) t0_0 d = vst m c := by
  unfold Dat.before; rw [if_pos (by rfl)]; rfl

def bodyPre : sProp 𝕄 :=
  iprop(Φ₀ m c ∗ (dats m ρ 0 c).owesAt () t0_0.castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ (∃ d, stg c cc0_stg3_0 ((dats m ρ 0 c).before (3 : Fin 4) t0_0 d)))

theorem enter : bodyPre m ρ c ⊢ iprop(∃ K, Start m K c (outAny c)) := by
  unfold bodyPre Φ₀ start G' ghost credits scr Start ins
  iintro ⟨⟨⟨⟨%K, #Hrecs, ⟨HtP, HtN, Hsd⟩, HaB, HaS, HaR⟩, ⟨HcB, HcR⟩, #Hlev⟩, Hf, Hg⟩, Ho, ⟨%d0, %f0, %e0, Hq⟩, ⟨%d1, %f1, %e1, Hk⟩, ⟨%d2, %f2, %e2, Hv⟩, ⟨%d3, %f3, %e3, Hout⟩⟩
  rw [before_q] at e0; rw [before_k] at e1; rw [before_v] at e2
  subst e0 e1 e2
  unfold Dat.owesAt Pipeline.owesWithin
  icases Ho with ⟨%W, -, HO⟩
  iexists K
  isplitr; · iexact Hrecs
  isplitr; · iexact Hlev
  isplitl [Hout]; · unfold outAny; iexists f3; iexact Hout
  isplitl [Hq Hk Hv]
  · isplitl [Hq]; · iexact Hq
    isplitl [Hk]; · iexact Hk
    iexact Hv
  isplitl [HO]; · iexists W; iexact HO
  isplitl [HtP HtN HcB HaB]
  · isplitl [HtP]; · iexact HtP
    isplitl [HtN]; · iexact HtN
    isplitl [HcB]; · iexact HcB
    iexact HaB
  isplitl [Hf Hg]
  · isplitl [Hf]; · iexact Hf
    iexact Hg
  isplitl [Hsd]; · iexact Hsd
  isplitl [HaS]; · iexact HaS
  iapply (Entails.of_eq (show iprop((bigSep (Finset.range 30) fun n => cred (tallyAt (rcvCell c n) () N)) ∗ bigSep (Finset.range 30) fun n => atPos ER (rcvCell c n) 0 ∅ 0)
    = bigSep (Finset.range 30) (rcvTok (F := F) c) from (bigSep_sep' _ _ _).symm))
  isplitl [HcR]; · iexact HcR
  iexact HaR

set_option maxRecDepth 8000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wpB c (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _) cc0_scratch2 cc0_scratch3) (fun _ => bodyPost m ρ c)
  refine (enter m ρ c).trans ?_
  iintro ⟨%K, H⟩
  iapply (run_all m K c (Q := fun _ => bodyPost m ρ c) (leave m ρ K c))
  iexact H

end Cert.RingAttn
-- ==== Proof.Launch.lean ====
/-
The launch: the cells' invariants set up on every device at once, the duties dealt around the ring, and the run of @main.
-/
module

public import proofs.«01_k».proof.Proof.Oblig
public import Idealize.ShloMosaic.Lib.Pipeline.CollectiveSegs

@[expose] public section

noncomputable section

namespace Cert.RingAttn

open Cert.KernelIdeal Cert.KernelIdeal.Gen
open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × Cell → ℕ) (c : Dev nD) {α β : Type}

/-! ## Counting cells -/

/-- The kernel's own semaphores that a transfer uses. -/
abbrev osem : Fin 30 ⊕ Fin 30 → SemLoc sig := fun k => cellSem (.inr k)

theorem cellSem_inj : Function.Injective cellSem := by
  rintro (⟨⟩ | a | a) (⟨⟩ | b | b) h
  · rfl
  · exact absurd h (by simp [cellSem])
  · exact absurd h (by simp [cellSem])
  · exact absurd h (by simp [cellSem])
  · have h' : (sndS a.val).val = (sndS b.val).val := congrArg Fin.val (SemLoc.dma.inj h)
    have : a.val = b.val := by rw [← (snd_back a.val a.isLt).2, ← (snd_back b.val b.isLt).2, h']
    rw [Fin.ext this]
  · have h' : (sndS a.val).val = (rcvS b.val).val := congrArg Fin.val (SemLoc.dma.inj h)
    exact absurd (h' ▸ (snd_back a.val a.isLt).1) (rcv_back b.val b.isLt).1
  · exact absurd h (by simp [cellSem])
  · have h' : (rcvS a.val).val = (sndS b.val).val := congrArg Fin.val (SemLoc.dma.inj h)
    exact absurd (h' ▸ (snd_back b.val b.isLt).1) (rcv_back a.val a.isLt).1
  · have h' : (rcvS a.val).val = (rcvS b.val).val := congrArg Fin.val (SemLoc.dma.inj h)
    have : a.val = b.val := by rw [← (rcv_back a.val a.isLt).2, ← (rcv_back b.val b.isLt).2, h']
    rw [Fin.ext this]

theorem kcell_inj : Function.Injective kcell := by
  rintro ⟨c, k⟩ ⟨c', k'⟩ h
  have h1 : c = c' := Fin.ext (congrArg (fun g : GSem nD τ sig => g.1.1.val) h)
  have h2 : k = k' := cellSem_inj (congrArg Prod.snd h)
  rw [h1, h2]

theorem osem_scoped : ∀ k, (osem k).isScoped .tc = true := by decide +kernel
theorem osem_other : ∀ k w s, osem k ≠ .dma ((cfg0.spec w).sem s) := by decide +kernel
theorem ownSemFacts : Pipeline.OwnSemFacts cfg0.spec osem where
  isScoped := osem_scoped
  inj := cellSem_inj.comp Sum.inr_injective
  disj := osem_other

def ringCells : Finset (GSem nD τ sig) := Finset.univ.map ⟨kcell, kcell_inj⟩

/-- The duties of a device's own cells: two at its barrier, one at each other. -/
abbrev Duty : Type := Bool ⊕ (Fin 30 ⊕ Fin 30)
def tokOf (p : Dev nD × Duty) : GSem nD τ sig × ℕ × Bool := match p.2 with
  | .inl b => (barCell p.1, 0, b)
  | .inr k => (kcell (p.1, .inr k), 0, false)

theorem tokOf_inj : Function.Injective tokOf := by
  rintro ⟨c, j⟩ ⟨c', j'⟩ h
  rcases j with b | k <;> rcases j' with b' | k'
  · have h1 : c = c' := Fin.ext (congrArg (fun x : GSem nD τ sig × ℕ × Bool => x.1.1.1.val) h)
    have h2 : b = b' := congrArg (fun x : GSem nD τ sig × ℕ × Bool => x.2.2) h
    rw [h1, h2]
  · have h1 : kcell (c, .inl ()) = kcell (c', .inr k') := congrArg (fun x : GSem nD τ sig × ℕ × Bool => x.1) h
    exact absurd (congrArg Prod.snd (kcell_inj h1)) (by simp)
  · have h1 : kcell (c, .inr k) = kcell (c', .inl ()) := congrArg (fun x : GSem nD τ sig × ℕ × Bool => x.1) h
    exact absurd (congrArg Prod.snd (kcell_inj h1)) (by simp)
  · have h1 : kcell (c, .inr k) = kcell (c', .inr k') := congrArg (fun x : GSem nD τ sig × ℕ × Bool => x.1) h
    have h2 := kcell_inj h1
    have h3 : k = k' := Sum.inr_injective (congrArg Prod.snd h2)
    rw [show c = c' from congrArg Prod.fst h2, h3]

def ringToks : Finset (GSem nD τ sig × ℕ × Bool) := Finset.univ.map ⟨tokOf, tokOf_inj⟩

def u₀ : UU := (initOf (Pipeline.cells cfgs cellOf_inj) (Pipeline.launchToks cfgs cellOf_inj), initOf ringCells ringToks)

theorem over_fin30 (Φ : ℕ → sProp 𝕄) : (bigSep Finset.univ fun n : Fin 30 => Φ n.val) = bigSep (Finset.range 30) Φ := by
  have h : Finset.range 30 = Finset.univ.map (Fin.valEmbedding (n := 30)) := by
    rw [Fin.map_valEmbedding_univ]; ext; simp
  rw [h, bigSep_map]; rfl

/-- Over a device's cells: the barrier, the send cells, the receive cells. -/
theorem over_cells (Φ : GSem nD τ sig → sProp 𝕄) : (bigSep Finset.univ fun k : Cell => Φ (kcell (c, k)))
    = iprop(Φ (barCell c) ∗ bigSep (Finset.range 30) (fun n => Φ (sndCell c n)) ∗ bigSep (Finset.range 30) fun n => Φ (rcvCell c n)) := by
  rw [bigSep_univ_sum, bigSep_univ_sum, ← over_fin30 fun n => Φ (sndCell c n), ← over_fin30 fun n => Φ (rcvCell c n)]
  rw [bigSep_univ_eq_bigSepL [()] (by decide) (by decide)]
  rfl

/-- The tokens of the duties of a device's own cells. -/
def toks : sProp 𝕄 := bigSep Finset.univ fun j : Duty => dutyTok ER (tokOf (c, j)).1 (tokOf (c, j)).2.1 (tokOf (c, j)).2.2

theorem toks_eq : (toks c : sProp 𝕄) = iprop((dutyTok ER (barCell c) 0 false ∗ dutyTok ER (barCell c) 0 true)
    ∗ bigSep (Finset.range 30) (fun n => dutyTok ER (sndCell c n) 0 false) ∗ bigSep (Finset.range 30) fun n => dutyTok ER (rcvCell c n) 0 false) := by
  unfold toks
  rw [bigSep_univ_sum, bigSep_univ_sum, ← over_fin30 fun n => dutyTok ER (sndCell c n) 0 false, ← over_fin30 fun n => dutyTok ER (rcvCell c n) 0 false]
  rw [bigSep_univ_eq_bigSepL [false, true] (by decide) (by decide)]
  rfl

/-- What the launch element deals a device. -/
def G : sProp 𝕄 :=
  iprop((bigSep Finset.univ fun k : Cell => roundState ER (ringRd m) (kcell (c, k)) 0)
    ∗ (bigSep Finset.univ fun k : Cell => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cell => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (ringRd m) ringCells ringToks) $$ HX with ⟨Hst, Hr, Hat, Htok⟩
  imodintro
  ihave Hst := (Entails.of_eq (hX fun g => roundState ER (ringRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem ownSems0_eq : (Pipeline.ownSems0 (Ix := Unit) (Name := ℕ) (U := UU) (Lvl := ℕ) (Val := Elt F) (τ := τ) osem c : sProp 𝕄)
    = iprop(bigSep (Finset.range 30) (sndZ c) ∗ bigSep (Finset.range 30) (rcvZ c)) := by
  unfold Pipeline.ownSems0
  rw [bigSep_univ_sum, ← over_fin30 (sndZ c), ← over_fin30 (rcvZ c)]; rfl

theorem unscopedSems0_eq : (unscopedSems0 c : sProp 𝕄) = semVal (barCell c) 0 := by
  unfold unscopedSems0; rw [bigSep_eq_bigSepL_of_eq [SemLoc.reg barS] (by decide +kernel) (by decide)]; rfl

theorem sems0_eq :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  rw [over_cells c fun g => semVal g 0, ownSems0_eq, unscopedSems0_eq]
  exact sep_comm.1

theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cell => semVal (kcell (c, k)) 0) ∗ bigSep Finset.univ fun k : Cell => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The duties around the ring -/

/-- The duties a device pays. -/
def payToks : sProp 𝕄 :=
  iprop(dutyTok ER (barCell (prv c)) 0 true ∗ dutyTok ER (barCell (nxt c)) 0 false ∗ bigSep (Finset.range 30) (sendDuty c))
def posns : sProp 𝕄 :=
  iprop(atPos ER (barCell c) 0 ∅ 0 ∗ bigSep (Finset.range 30) (sndAt c) ∗ bigSep (Finset.range 30) fun n => atPos ER (rcvCell c n) 0 ∅ 0)

/-- Transfer `n` as a turn of the ring. -/
def turn (n : ℕ) : Dev nD ≃ Dev nD := ⟨tgt n, frm n, frm_tgt n, tgt_frm n⟩

/-- All devices and all transfers, counted either way. -/
theorem by_transfer (Φ : Dev nD → ℕ → sProp 𝕄) : ∀ k, (bigSep Finset.univ fun c : Dev nD => bigSep (Finset.range k) (Φ c))
    = bigSep (Finset.range k) fun n => bigSep Finset.univ fun c : Dev nD => Φ c n
  | 0 => BI.Entails.antisymm (show (bigSep Finset.univ fun c : Dev nD => bigSep (Finset.range 0) (Φ c) : sProp 𝕄) ⊢ iprop(emp) by iintro -; iempintro)
      (BI.bigSep_of_persistent (Finset.univ : Finset (Dev nD)) (iprop(emp) : sProp 𝕄))
  | k + 1 => by
    rw [bigSep_range_succ, ← by_transfer Φ k, ← bigSep_sep']
    exact bigSep_congr fun c _ => bigSep_range_succ k (Φ c)

theorem toks_around : (bigSep Finset.univ fun c : Dev nD => (toks c : sProp 𝕄)) ⊢ bigSep Finset.univ fun c : Dev nD => payToks c := by
  have hr : (bigSep Finset.univ fun c : Dev nD => bigSep (Finset.range 30) fun n => (dutyTok ER (rcvCell c n) 0 false : sProp 𝕄))
      = bigSep Finset.univ fun c : Dev nD => bigSep (Finset.range 30) fun n => dutyTok ER (rcvCell (tgt n c) n) 0 false := by
    rw [by_transfer, by_transfer]
    exact bigSep_congr fun n _ => bigSep_univ_equiv (turn n) fun c => dutyTok ER (rcvCell c n) 0 false
  have hd (c : Dev nD) : bigSep (Finset.range 30) (sendDuty (F := F) c)
      = iprop(bigSep (Finset.range 30) (fun n => dutyTok ER (sndCell c n) 0 false) ∗ bigSep (Finset.range 30) fun n => dutyTok ER (rcvCell (tgt n c) n) 0 false) :=
    bigSep_sep' _ _ _
  unfold payToks
  simp only [hd, toks_eq]
  rw [bigSep_sep', bigSep_sep', bigSep_sep', bigSep_sep', bigSep_sep', bigSep_sep', hr,
    bigSep_univ_equiv ring (fun c : Dev nD => (dutyTok ER (barCell c) 0 false : sProp 𝕄)),
    bigSep_univ_equiv ring.symm (fun c : Dev nD => (dutyTok ER (barCell c) 0 true : sProp 𝕄))]
  iintro ⟨⟨H1, H2⟩, H3, H4⟩
  isplitl [H2]; · iexact H2
  isplitl [H1]; · iexact H1
  isplitl [H3]; · iexact H3
  iexact H4

theorem ghost_intro (c : Dev nD) : iprop(recs m K ∗ posns c ∗ payToks c) ⊢ G' m c := by
  unfold G' ghost posns payToks
  iintro ⟨#HR, ⟨HaB, HaS, HaV⟩, Ht⟩
  iexists K
  isplitr; · iexact HR
  isplitl [Ht]; · iexact Ht
  isplitl [HaB]; · iexact HaB
  isplitl [HaS]; · iexact HaS
  iexact HaV

theorem all_with {S : Finset (Dev nD)} {R : sProp 𝕄} [BI.Persistent R] {Φ Ψ : Dev nD → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Cell => iprop(∃ κ : ℕ, cellInv ER (ringRd m) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (ringRd m) κ (kcell ck) : sProp 𝕄))) $$ HI
  icases HK with ⟨%K, #HI⟩
  ihave Htk := (toks_around (F := F)) $$ Htok
  iapply (all_with (R := recs m K) fun c => ghost_intro m K c)
  isplitr
  · iapply (Entails.of_eq (show iprop((bigSep Finset.univ fun p => cellInv ER (ringRd m) (K p) (kcell p)) ∗ bigSep Finset.univ fun p => reached ER (kcell p) 0)
      = recs (F := F) m K from (bigSep_sep' _ _ _).symm))
    isplitl; · iexact HI
    iexact HR
  · iapply ((Entails.of_eq (bigSep_sep' Finset.univ (fun c : Dev nD => bigSep Finset.univ fun k : Cell => (atPos ER (kcell (c, k)) 0 ∅ 0 : sProp 𝕄)) payToks).symm).trans
      (bigSep_mono fun c _ => show _ ⊢ iprop(posns (F := F) c ∗ payToks c) from Entails.of_eq (by rw [over_cells c fun g => atPos ER g 0 ∅ 0]; rfl)))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_ne_rcv (a b : Dev nD) (n : ℕ) : barCell a ≠ rcvCell b n := fun h => by
  have := congrArg Prod.snd h; cases this
theorem bar_inj {a b : Dev nD} (h : barCell a = barCell b) : a = b := Fin.ext (congrArg (fun g : GSem nD τ sig => g.1.1.val) h)
theorem rcv_inj {a b : Dev nD} {i j : ℕ} (hi : i < 30) (hj : j < 30) (h : rcvCell a i = rcvCell b j) : a = b ∧ i = j := by
  have := kcell_inj (a₁ := (a, .inr (.inr ⟨i, hi⟩))) (a₂ := (b, .inr (.inr ⟨j, hj⟩))) h
  refine ⟨congrArg Prod.fst this, ?_⟩
  have h2 := Sum.inr_injective (Sum.inr_injective (congrArg Prod.snd this))
  exact congrArg Fin.val h2

theorem owedK_rcv (d c : Dev nD) {n : ℕ} (hn : n < 30) : ∀ k a, a + k ≤ 30 →
    owedK d a k (rcvCell c n) () = if a ≤ n ∧ n < a + k ∧ d = frm n c then N else 0
  | 0, a, _ => by
    rw [if_neg (by omega)]; rfl
  | k + 1, a, h => by
    show (owedK d (a + 1) k + tallyAt (rcvCell (tgt a d) a) () N) (rcvCell c n) () = _
    rw [Pi.add_apply, Finsupp.add_apply, owedK_rcv d c hn k (a + 1) (by omega), tallyAt_apply]
    by_cases ha : a = n
    · subst ha
      rw [if_neg (by omega), Nat.zero_add]
      by_cases hd : d = frm a c
      · rw [if_pos ⟨by rw [hd, tgt_frm], rfl⟩, if_pos ⟨by omega, by omega, hd⟩]
      · rw [if_neg (fun h' => hd (by rw [(rcv_inj hn hn h'.1).1, frm_tgt])), if_neg (fun h' => hd h'.2.2)]
    · rw [if_neg (c := _ ∧ () = ()) (fun h' => ha (rcv_inj hn (by omega) h'.1).2.symm), Nat.add_zero]
      exact if_congr ⟨fun h' => ⟨by omega, by omega, h'.2.2⟩, fun h' => ⟨by omega, by omega, h'.2.2⟩⟩ rfl rfl

theorem owedK_bar (d c : Dev nD) : ∀ k a, owedK d a k (barCell c) () = 0
  | 0, _ => rfl
  | k + 1, a => by
    show (owedK d (a + 1) k + tallyAt (rcvCell (tgt a d) a) () N) (barCell c) () = _
    rw [Pi.add_apply, Finsupp.add_apply, owedK_bar d c k (a + 1), tallyAt_apply, if_neg (fun h => bar_ne_rcv _ _ _ h.1)]

/-- What device `d` owes device `c`'s barrier. -/
theorem owed_bar (d c : Dev nD) : O₀ d (barCell c) () = (if d = prv c then 1 else 0) + (if d = nxt c then 1 else 0) := by
  unfold O₀ O₁ owed
  rw [Pi.add_apply, Finsupp.add_apply, Pi.add_apply, Finsupp.add_apply, owedK_bar, tallyAt_apply, tallyAt_apply, Nat.zero_add]
  refine congrArg₂ (· + ·) (if_congr ⟨fun h => ?_, fun h => ?_⟩ rfl rfl) (if_congr ⟨fun h => ?_, fun h => ?_⟩ rfl rfl)
  · rw [bar_inj h.1, prv_nxt]
  · rw [h, nxt_prv]; exact ⟨rfl, rfl⟩
  · rw [bar_inj h.1, nxt_prv]
  · rw [h, prv_nxt]; exact ⟨rfl, rfl⟩

theorem owed_rcv (d c : Dev nD) {n : ℕ} (hn : n < 30) : O₀ d (rcvCell c n) () = if d = frm n c then N else 0 := by
  unfold O₀ O₁ owed
  rw [Pi.add_apply, Finsupp.add_apply, Pi.add_apply, Finsupp.add_apply, owedK_rcv d c hn _ _ (by omega), tallyAt_apply, tallyAt_apply,
    if_neg (c := _ ∧ () = ()) (fun h => bar_ne_rcv _ _ _ h.1.symm), if_neg (c := _ ∧ () = ()) (fun h => bar_ne_rcv _ _ _ h.1.symm), Nat.add_zero, Nat.add_zero]
  exact if_congr ⟨fun h => h.2.2, fun h => ⟨by omega, by omega, h⟩⟩ rfl rfl

theorem launch_bar : tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nxt c) fun _ => 1, Finset.sum_ite_eq' Finset.univ (prv c) fun _ => 1, if_pos (Finset.mem_univ _), if_pos (Finset.mem_univ _)]

theorem launch_rcv {n : ℕ} (hn : n < 30) :
    tallyOn (rcvCell c n) (launchCredit (Pipeline.owing O₀) 0 (rcvCell c n)) = (tallyAt (rcvCell c n) () N : CellTallies nD τ sig Unit) := by
  unfold tallyAt; refine congrArg _ (Finsupp.ext fun u => ?_); cases u
  rw [Pipeline.launchCredit_owing, Finsupp.single_eq_same, Finset.sum_congr rfl fun d _ => owed_rcv d c hn, Finset.sum_ite_eq' Finset.univ (frm n c) fun _ => N,
    if_pos (Finset.mem_univ _)]

/-- The receive semaphores, in the order of the transfers. -/
def rcvL (n : ℕ) : SemLoc sig := .dma (rcvS n)
theorem rcvL_inj : Set.InjOn rcvL (Finset.range 30 : Finset ℕ) := fun a ha b hb h =>
  (rcv_inj (a := 0) (b := 0) (Finset.mem_range.mp ha) (Finset.mem_range.mp hb) (congrArg (Prod.mk ((0 : Dev nD) : Thread nD τ)) h)).2
theorem rcvL_ne (n : ℕ) : rcvL n ≠ .reg barS := nofun

theorem creds_rest (Φ : SemLoc sig → sProp 𝕄) : bigSep (Finset.univ.erase (SemLoc.reg barS)) Φ ⊢ bigSep (Finset.range 30) fun n => Φ (rcvL n) := by
  rw [← bigSep_image_of_injOn rcvL_inj Φ]
  refine bigSep_subset fun s hs => ?_
  obtain ⟨n, _, rfl⟩ := Finset.mem_image.mp hs
  exact Finset.mem_erase.mpr ⟨rcvL_ne n, Finset.mem_univ _⟩

theorem creds : (Pipeline.launchCred O₀ c : sProp 𝕄) ⊢ credits c := by
  unfold Pipeline.launchCred credits
  rw [bigSep_univ_at _ (SemLoc.reg barS), launch_bar]
  refine sep_mono_right ((creds_rest _).trans ?_)
  exact bigSep_mono fun n hn => Entails.of_eq (congrArg cred (launch_rcv c (Finset.mem_range.mp hn)))

/-! ## The region's conditions -/

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem scr_in : (Pipeline.scopedRest cfg0.spec c : sProp 𝕄) ⊢ scr c := by
  rw [scopedRest0_eq]; exact Entails.of_eq rfl
theorem scr_out : (scr c : sProp 𝕄) ⊢ Pipeline.scopedRest cfg0.spec c := by
  rw [scopedRest0_eq]; exact Entails.of_eq rfl

theorem phi0_intro :
    iprop(start m c ∗ Pipeline.prefHeld Pipeline.Prefetch.none c (fun _ => fullShare.right) (fun k => k.elim0) ∗ Pipeline.scopedRest cfg0.spec c)
      ⊢ (dats (F := F) m ρ 0 c).Φ 0 := by
  rw [show (dats m ρ 0 c).Φ 0 = Φ₀ m c from rfl]
  unfold Φ₀
  iintro ⟨Hs, -, Hr⟩
  isplitl [Hs]; · iexact Hs
  iapply (scr_in c); iexact Hr

theorem phi1_exit :
    (dats (F := F) m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ownSems0_eq, unscopedSems0_eq]
  unfold Φ₁
  iintro ⟨Hr, HzB, HzS, HzV⟩
  isplitl [HzB]; · iexact HzB
  isplitl [HzS HzV]
  · isplitl [HzS] <;> iassumption
  iapply (scr_out c); iexact Hr

theorem share_eq (w : Fin cfg0.W) : (dats (F := F) m ρ 0 c).share w = fullShare := by unfold Dat.share; split <;> rfl

theorem waits : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair execution of @main on the sixteen devices ends, with each device's arrays at the computed contents and every semaphore at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array ends as it began, -/
theorem finalA_in (w : Fin cfg0.W) (hw : (cfg0.win w).isOut = false) : finalA m ρ c w = (s₀ m ρ).mem ((cfg0.win w).arr.view.loc (c : Thread nD τ)) :=
  (dats (F := F) m ρ 0 c).arrAt_in w hw _

end Cert.RingAttn
-- ==== Proof.Frames.lean ====
/-
The frames: each program runs, leaves its arguments alone and every semaphore at zero; and the named constant's statement.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.RingAttn

open Cert.KernelIdeal Cert.KernelIdeal.Gen
open Idealize.ShloMosaic
open Idealize.ShloMosaic.TcCoe
open Idealize.SL Idealize.SL.Sem

section Args
variable {F : FTy → Type} [FloatOps F] [Named F]
variable (m : (ℓ : Loc nD τ sig) → Buf (Elt F) ℓ) (ρ : Dev nD → PrngReg)

/-- What the run's end says of the arguments. -/
theorem ends_args {r : PUnit × MemSt nD τ sig (Elt F)} (h : Ends m ρ r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  ⟨(h c (0 : Fin 4)).trans (finalA_in m ρ c (0 : Fin 4) rfl), (h c (1 : Fin 4)).trans (finalA_in m ρ c (1 : Fin 4) rfl),
    (h c (2 : Fin 4)).trans (finalA_in m ρ c (2 : Fin 4) rfl)⟩

end Args

theorem frame_ideal : Cert.quiescent_KernelIdeal := fun m ρ _ =>
  (θ_run Cert.KernelIdeal.defs _ _).mono (fun _ h => ⟨fun c => ends_args m ρ h.1 c, h.2⟩) (run_main (F := Ideal) m ρ)

/-- On bit patterns the named constant is its own pattern: what the original program has there. -/
local instance namedBits : Named Bits where
  named _ _ _ bits := Scalar.ofBits _ bits

/-- On bit patterns the two programs' bodies are the same, -/
theorem bodies_eq : Cert.KernelIdeal.defs₀ (F := Bits) = Cert.Kernel.defs₀ (F := Bits) := by
  refine congrArg Defs.onTc (funext fun l => ?_)
  match l with
  | 0 => exact funext fun _ => rfl
/-- and so are their tables. -/
theorem tables_eq : Cert.KernelIdeal.defs (F := Bits) = Cert.Kernel.defs (F := Bits) :=
  congrArg (Pipeline.defs Cert.KernelIdeal.pcfgs) bodies_eq

set_option maxRecDepth 8000 in
theorem frame_kernel : Cert.quiescent_Kernel := fun m ρ _ => by
  rw [← tables_eq]
  exact (θ_run Cert.KernelIdeal.defs _ _).mono (fun _ h => ⟨fun c => ends_args m ρ h.1 c, h.2⟩) (run_main (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement Cert.KernelIdeal.κ "inv_sqrt_d" .f32 0x3DB504F3#32 _ rfl

end Cert.RingAttn
-- ==== Proof.Softmax.lean ====
/-
Attention's softmax over the extended reals, taken block by block: a running maximum, a running sum of exponentials and a
running weighted sum, each rescaled when the maximum moves, end at the same quotient whatever the order of the blocks.
-/
module

public import Idealize.ShloMosaic.PureOps.Ideal
public import Idealize.ShloMosaic.PureOps.Ideal.Laws

@[expose] public section

noncomputable section

namespace Cert.RingAttn

open Idealize.ShloMosaic
open scoped BigOperators

/-- The word the maxima start from. -/
theorem neg_inf : Ideal.ofBits .f32 0xFF800000#32 = ⊥ := by simp [Ideal.ofBits, Ideal.ieee]

/-- Multiplication by a nonnegative real number is additive on the extended reals. -/
def scaleHom (c : ℝ) (hc : 0 ≤ c) : EReal →+ EReal where
  toFun x := x * c
  map_zero' := zero_mul _
  map_add' a b := EReal.right_distrib_of_nonneg_of_ne_top (EReal.coe_nonneg.mpr hc) (EReal.coe_ne_top c) a b

theorem sum_mul_coe {ι : Type*} (S : Finset ι) (f : ι → EReal) {c : ℝ} (hc : 0 ≤ c) :
    (∑ i ∈ S, f i) * (c : EReal) = ∑ i ∈ S, f i * (c : EReal) := map_sum (scaleHom c hc) f S

theorem coe_sum {ι : Type*} (S : Finset ι) (f : ι → ℝ) : ((∑ i ∈ S, f i : ℝ) : EReal) = ∑ i ∈ S, (f i : EReal) :=
  map_sum (⟨⟨Real.toEReal, EReal.coe_zero⟩, EReal.coe_add⟩ : ℝ →+ EReal) f S

/-- The maximum of a nonempty family of real numbers is real. -/
theorem fold_max_coe {ι : Type*} {S : Finset ι} (hS : S.Nonempty) (f : ι → ℝ) :
    ∃ μ : ℝ, S.fold max ⊥ (fun i => (f i : EReal)) = μ := by
  obtain ⟨i, hi⟩ := hS
  have hb : S.fold max ⊥ (fun i => (f i : EReal)) ≠ ⊥ := by
    have : (⊥ : EReal) < S.fold max ⊥ (fun i => (f i : EReal)) :=
      (Finset.lt_fold_max _).mpr (.inr ⟨i, hi, EReal.bot_lt_coe _⟩)
    exact this.ne'
  have ht : S.fold max ⊥ (fun i => (f i : EReal)) ≠ ⊤ := by
    have : S.fold max ⊥ (fun i => (f i : EReal)) < ⊤ :=
      (Finset.fold_max_lt _).mpr ⟨bot_lt_top, fun i _ => EReal.coe_lt_top _⟩
    exact this.ne
  exact ⟨_, (EReal.coe_toReal ht hb).symm⟩

section Row
variable {β ι : Type*} [Fintype ι]

/-- The weighted sum of the blocks `P`, the exponentials taken against `μ`. -/
def wsum (σ : β → ι → ℝ) (v : β → ι → EReal) (P : List β) (μ : ℝ) : EReal :=
  (P.map fun d => ∑ r, (Real.exp (σ d r - μ) : EReal) * v d r).sum

variable (σ : β → ι → ℝ) (v : β → ι → EReal)

theorem wsum_rescale (P : List β) (μ μ' : ℝ) :
    wsum σ v P μ * ((Real.exp (μ - μ') : ℝ) : EReal) = wsum σ v P μ' := by
  have e := map_list_sum (scaleHom (Real.exp (μ - μ')) (Real.exp_nonneg _)) (P.map fun d => ∑ r, (Real.exp (σ d r - μ) : EReal) * v d r)
  refine e.trans ?_
  rw [List.map_map]
  refine congrArg List.sum (List.map_congr_left fun d _ => ?_)
  refine (sum_mul_coe _ _ (Real.exp_nonneg _)).trans (Finset.sum_congr rfl fun r _ => ?_)
  rw [mul_right_comm, ← EReal.coe_mul, ← Real.exp_add]
  congr 3
  ring

theorem wsum_snoc (P : List β) (d : β) (μ : ℝ) :
    wsum σ v (P ++ [d]) μ = wsum σ v P μ + ∑ r, (Real.exp (σ d r - μ) : EReal) * v d r := by
  simp [wsum]

/-- What the running values are after the blocks `P`: at the start the maximum is `⊥` and the sums `0`; later the maximum is
    some real number, the sums those of `P` against it. -/
def Running (P : List β) (M L A : EReal) : Prop :=
  (P = [] ∧ M = ⊥ ∧ L = 0 ∧ A = 0) ∨ ∃ μ : ℝ, M = μ ∧ L = wsum σ (fun _ _ => 1) P μ ∧ A = wsum σ v P μ

theorem running_nil : Running σ v [] ⊥ 0 0 := .inl ⟨rfl, rfl, rfl, rfl⟩

/-- One more block. -/
theorem Running.snoc [Nonempty ι] {P : List β} {M L A : EReal} (h : Running σ v P M L A) (d : β) {M' : EReal}
    (hM : M' = max M ((Finset.univ : Finset ι).fold max ⊥ fun r => (σ d r : EReal))) :
    Running σ v (P ++ [d]) M' (L * Ideal.exp (M - M') + ∑ r, Ideal.exp ((σ d r : EReal) - M'))
      (A * Ideal.exp (M - M') + ∑ r, Ideal.exp ((σ d r : EReal) - M') * v d r) := by
  obtain ⟨ν, hν⟩ := fold_max_coe (S := (Finset.univ : Finset ι)) Finset.univ_nonempty (σ d)
  rw [hν] at hM
  refine .inr ?_
  obtain ⟨rfl, rfl, rfl, rfl⟩ | ⟨μ, rfl, rfl, rfl⟩ := h
  · rw [max_eq_right bot_le] at hM
    subst hM
    refine ⟨ν, rfl, ?_, ?_⟩ <;>
      simp only [wsum_snoc, ← EReal.coe_sub, Ideal.exp_coe, zero_mul, mul_one, zero_add, wsum, List.map_nil, List.sum_nil,
        List.nil_append, List.map_cons, List.sum_cons, add_zero]
  · rw [← EReal.coe_strictMono.monotone.map_max] at hM
    subst hM
    refine ⟨max μ ν, rfl, ?_, ?_⟩ <;>
      simp only [wsum_snoc, ← EReal.coe_sub, Ideal.exp_coe, mul_one, wsum_rescale]

/-- A weight of the softmax over all blocks. -/
def weight [Fintype β] (d : β) (r : ι) : ℝ := Real.exp (σ d r) / ∑ d', ∑ r', Real.exp (σ d' r')

theorem total_pos [Fintype β] [Nonempty β] [Nonempty ι] (μ : ℝ) : 0 < ∑ d : β, ∑ r : ι, Real.exp (σ d r - μ) :=
  Finset.sum_pos (fun _ _ => Finset.sum_pos (fun _ _ => Real.exp_pos _) Finset.univ_nonempty) Finset.univ_nonempty

/-- The weight does not depend on what is subtracted from the scores. -/
theorem weight_eq [Fintype β] (μ : ℝ) (d : β) (r : ι) :
    Real.exp (σ d r - μ) / ∑ d', ∑ r', Real.exp (σ d' r' - μ) = weight σ d r := by
  have e : ∀ d r, Real.exp (σ d r - μ) = Real.exp (σ d r) * Real.exp (-μ) := fun d r => by
    rw [← Real.exp_add, sub_eq_add_neg]
  simp only [e, ← Finset.sum_mul, weight]
  exact mul_div_mul_right _ _ (Real.exp_pos _).ne'

/-- The quotient at the end: every value under its weight. -/
theorem Running.quotient [Fintype β] [Nonempty β] [Nonempty ι] {P : List β} {M L A : EReal} (h : Running σ v P M L A)
    (hP : ∀ f : β → EReal, (P.map f).sum = ∑ d, f d) (hne : P ≠ []) :
    Ideal.div A L = ∑ d, ∑ r, (weight σ d r : EReal) * v d r := by
  obtain ⟨rfl, -⟩ | ⟨μ, rfl, rfl, rfl⟩ := h
  · exact absurd rfl hne
  have hL : wsum σ (fun _ _ => 1) P μ = ((∑ d : β, ∑ r : ι, Real.exp (σ d r - μ) : ℝ) : EReal) := by
    simp only [wsum, hP, mul_one, coe_sum]
  have hc : 0 ≤ 1 / (∑ d : β, ∑ r : ι, Real.exp (σ d r - μ)) := one_div_nonneg.mpr (total_pos σ μ).le
  rw [hL, Ideal.div_coe (total_pos σ μ).ne', wsum, hP, sum_mul_coe _ _ hc]
  refine Finset.sum_congr rfl fun d _ => ?_
  rw [sum_mul_coe _ _ hc]
  refine Finset.sum_congr rfl fun r _ => ?_
  rw [mul_right_comm, ← EReal.coe_mul, mul_one_div, weight_eq]

/-- The same of the textbook's softmax: each exponential divided by the sum of all of them. -/
theorem textbook_quotient [Fintype β] [Nonempty β] [Nonempty ι] (μ : ℝ) (d : β) (r : ι) :
    Ideal.div (Ideal.exp ((σ d r : EReal) - (μ : EReal))) (∑ d', ∑ r', Ideal.exp ((σ d' r' : EReal) - (μ : EReal)))
      = (weight σ d r : EReal) := by
  simp only [← EReal.coe_sub, Ideal.exp_coe, ← coe_sum]
  rw [Ideal.div_coe (total_pos σ μ).ne', ← EReal.coe_mul, mul_one_div, weight_eq]

end Row

end Cert.RingAttn

end
-- ==== Proof.Rows.lean ====
/-
The kernel's arithmetic read one row at a time, over the extended reals: one block's step is the running softmax's step on
that row.
-/
module

public import proofs.«01_k».proof.Proof.Body
public import proofs.«01_k».proof.Proof.Softmax
public import Idealize.ShloMosaic.Lib.ValueIdx
public import Idealize.ShloMosaic.Lib.ValueLayout
public import Idealize.ShloMosaic.Lib.MatmulPlain
public import Idealize.ShloMosaic.PureOps.IdealRules

@[expose] public section

noncomputable section

namespace Cert.RingAttn

open Cert.KernelIdeal Cert.KernelIdeal.Gen
open Idealize.ShloMosaic
open Idealize.ShloMosaic.ValueIdx
open scoped BigOperators

theorem dot_scores : dot_S1024x128_S1024x128_S1024x1024_1_1_0_0_n_n = DotDims.transposedRhs 1024 128 1024 := rfl
theorem dot_values : dot_S1024x1024_S1024x128_S1024x128_1_0_0_1_n_n = DotDims.plain 1024 1024 128 := rfl

theorem inv_sqrt : (Named.named κ "inv_sqrt_d" 0x3DB504F3#32 : Ideal .f32) = (((Real.sqrt 128)⁻¹ : ℝ) : EReal) :=
  IdealRules.named_const.ideal_named_scalar (φ := .f32) κ "inv_sqrt_d" 0x3DB504F3#32 _ rfl

section Casts
variable {α : Type}

theorem column_apply (x : S1024.Idx → α) (h : S1024.ShapeCasts S1024x1) (i : Fin 1024) :
    shapeCast S1024x1 x h (ix2 i (0 : Fin 1)) = x (ix1 i) := by
  refine shapeCast_apply x h _ _ ?_
  rw [Shape.rowMajor_val_one, Shape.rowMajor_val_two]
  simp

theorem across_apply {n : ℕ} (x : S1024x1.Idx → α) (h : S1024x1.Broadcasts ⟨2, ![1024, n]⟩) (i : Fin 1024) (j : Fin n) :
    broadcastTo ⟨2, ![1024, n]⟩ x h (ix2 i j) = x (ix2 i (0 : Fin 1)) :=
  broadcastTo_apply x h _ _ fun a => match a with | ⟨0, _⟩ => rfl | ⟨1, _⟩ => rfl

end Casts

variable (q : FVec Ideal S1024x128 .bf16) (k v : FVec Ideal S1x1024x128 .bf16) (s : Acc Ideal)

theorem score_apply (i r : Fin 1024) :
    k0_pay13 q k (ix2 i r) = (∑ t : Fin 128, q (ix2 i t) * k (ix3 (0 : Fin 1) r t)) * (((Real.sqrt 128)⁻¹ : ℝ) : EReal) := by
  unfold k0_pay13
  refine (mulf_apply _ _ _).trans ?_
  rw [broadcast_apply, inv_sqrt]
  refine congrArg (· * _) ?_
  refine (Ideal.matmul_transposedRhs_apply (M := 1024) (K := 128) (N := 1024) none _ _ _ i r).trans ?_
  rw [constant_apply, Ideal.ofBits_zero_f32, zero_add]
  refine Finset.sum_congr rfl fun t _ => ?_
  rw [shapeCast_1ab_ab_apply]

theorem max_apply (i : Fin 1024) :
    (step q k v s).m (ix2 i (0 : Fin 1))
      = max (s.m (ix2 i (0 : Fin 1))) ((Finset.univ : Finset (Fin 1024)).fold max ⊥ fun r => k0_pay13 q k (ix2 i r)) := by
  show k0_pay14 q s.m k _ = _
  unfold k0_pay14
  refine (maximumf_apply _ _ _).trans (congrArg (max _) ?_)
  rw [column_apply]
  refine (Ideal.multiReduction_maximumf_single _ _ _ _ _ _).trans ?_
  refine congrArg₂ (fun b f => (Finset.univ : Finset (Fin 1024)).fold max b f) neg_inf (funext fun r => congrArg (k0_pay13 q k) ?_)
  funext a; match a with | ⟨0, _⟩ => rfl | ⟨1, _⟩ => rfl

theorem weight_apply (i r : Fin 1024) :
    k0_pay15 q s.m k (ix2 i r) = Ideal.exp (k0_pay13 q k (ix2 i r) - (step q k v s).m (ix2 i (0 : Fin 1))) := by
  unfold k0_pay15
  show Ideal.exp (k0_pay13 q k (ix2 i r) - broadcastTo _ _ _ _) = _
  rw [across_apply]
  rfl

theorem sum_apply (i : Fin 1024) :
    (step q k v s).l (ix2 i (0 : Fin 1))
      = s.l (ix2 i (0 : Fin 1)) * Ideal.exp (s.m (ix2 i (0 : Fin 1)) - (step q k v s).m (ix2 i (0 : Fin 1)))
        + ∑ r, Ideal.exp (k0_pay13 q k (ix2 i r) - (step q k v s).m (ix2 i (0 : Fin 1))) := by
  show k0_pay17 q s.m s.l k _ = _
  unfold k0_pay17
  refine (addf_apply _ _ _).trans (congrArg₂ (· + ·) rfl ?_)
  rw [column_apply]
  refine (Ideal.multiReduction_add_single _ _ _ _ _ _).trans (Finset.sum_congr rfl fun r _ => ?_)
  refine Eq.trans (congrArg (k0_pay15 q s.m k) ?_) (weight_apply q k v s i r)
  funext a; match a with | ⟨0, _⟩ => rfl | ⟨1, _⟩ => rfl

theorem acc_apply (i : Fin 1024) (e : Fin 128) :
    (step q k v s).a (ix2 i e)
      = s.a (ix2 i e) * Ideal.exp (s.m (ix2 i (0 : Fin 1)) - (step q k v s).m (ix2 i (0 : Fin 1)))
        + ∑ r, Ideal.exp (k0_pay13 q k (ix2 i r) - (step q k v s).m (ix2 i (0 : Fin 1))) * v (ix3 (0 : Fin 1) r e) := by
  show k0_pay19 s.a (k0_pay16 q s.m k) (k0_pay18 q s.m k) v _ = _
  unfold k0_pay19
  refine (addf_apply _ _ _).trans (congrArg₂ (· + ·) ?_ ?_)
  · refine (mulf_apply _ _ _).trans (congrArg (s.a (ix2 i e) * ·) ?_)
    rw [across_apply]
    rfl
  · refine (Ideal.matmul_plain_apply (M := 1024) (K := 1024) (N := 128) none _ _ _ i e).trans ?_
    rw [constant_apply, Ideal.ofBits_zero_f32, zero_add]
    refine Finset.sum_congr rfl fun r _ => congrArg₂ (· * ·) (weight_apply q k v s i r) ?_
    rw [shapeCast_1ab_ab_apply]

end Cert.RingAttn

end
-- ==== Proof.RefRow.lean ====
/-
The reference's arithmetic read one row at a time, over the extended reals, its columns grouped into the sixteen devices'
blocks: every value under its softmax weight.
-/
module

public import proofs.«01_k».proof.Proof.Gen.ReferenceIdeal.Run
public import proofs.«01_k».proof.Proof.Softmax
public import Idealize.ShloMosaic.Lib.ValueIdx
public import Idealize.ShloMosaic.Lib.ValueLayout
public import Idealize.ShloMosaic.Lib.MatmulPlain
public import Idealize.ShloMosaic.Lib.StackMember

@[expose] public section

noncomputable section

namespace Cert.RingAttn.Ref

open Cert.ReferenceIdeal Cert.ReferenceIdeal.Gen
open Idealize.ShloMosaic
open Idealize.ShloMosaic.ValueIdx
open scoped BigOperators

/-- Row `r` of block `d`, as a row of the whole array. -/
def pos (d : Fin 16) (r : Fin 1024) : Fin 16384 := ⟨d.val * 1024 + r.val, by omega⟩

/-- A sum over all rows is the sum over the blocks of the sums over their rows. -/
theorem sum_pos {M : Type*} [AddCommMonoid M] (f : Fin 16384 → M) : ∑ j, f j = ∑ d, ∑ r, f (pos d r) := by
  rw [← Fintype.sum_prod_type' fun d r => f (pos d r)]
  refine (Fintype.sum_equiv (finProdFinEquiv (m := 16) (n := 1024)) _ _ fun p => congrArg f (Fin.ext ?_)).symm
  show p.1.val * 1024 + p.2.val = p.2.val + 1024 * p.1.val
  omega

/-- Every row is some block's. -/
theorem exists_pos (j : Fin 16384) : ∃ d r, j = pos d r :=
  ⟨⟨j.val / 1024, by omega⟩, ⟨j.val % 1024, by omega⟩, Fin.ext (by show j.val = j.val / 1024 * 1024 + j.val % 1024; omega)⟩

theorem dot_scores : dot_S16384x128_S128x16384_S16384x16384_1_0_0_1_n_n = DotDims.plain 16384 128 16384 := rfl
theorem dot_values : dot_S16384x16384_S16384x128_S16384x128_1_0_0_1_n_n = DotDims.plain 16384 16384 128 := rfl

variable (q k v : FVec Ideal S16384x128 .bf16)

/-- The scores, -/
def scores : FVec Ideal S16384x16384 .f32 :=
  Host.divf (Host.dotGeneral dot_S16384x128_S128x16384_S16384x16384_1_0_0_1_n_n none (extf .f32 q bitsLt_bf16_f32)
    (transpose S128x16384 [1, 0] (extf .f32 k bitsLt_bf16_f32) transposes_S16384x128_S128x16384_1_0))
    (broadcastInDim S16384x16384 ![] bcast_S_S16384x16384 (id (Host.sqrt (constant S_ .f32 0x43000000#32))))
/-- a column of one value per row, as wide as the scores, -/
def wide (x : FVec Ideal S16384 .f32) : FVec Ideal S16384x16384 .f32 :=
  broadcastInDim S16384x16384 ![0, 1] bcast_S16384x1_S16384x16384_0_1 (broadcastInDim S16384x1 ![0] bcast_S16384_S16384x1_0 x)
/-- each row's maximum, -/
def top : FVec Ideal S16384 .f32 :=
  Host.reduce FloatOps.maximumf (scores q k) (constant S_ .f32 0xFF800000#32) reducesTo_S16384x16384_S16384_d1 h_S_
/-- the exponentials, -/
def exps : FVec Ideal S16384x16384 .f32 := Host.exp (subf (scores q k) (wide (top q k)))
/-- and the result. -/
def result : FVec Ideal S16384x128 .f32 :=
  Host.dotGeneral dot_S16384x16384_S16384x128_S16384x128_1_0_0_1_n_n none
    (Host.divf (exps q k) (wide (Host.reduceAdd (exps q k) (constant S_ .f32 0x00000000#32) reducesTo_S16384x16384_S16384_d1 h_S_)))
    (extf .f32 v bitsLt_bf16_f32)

theorem wide_apply (x : FVec Ideal S16384 .f32) (i j : Fin 16384) : wide x (ix2 i j) = x (ix1 i) := by
  unfold wide
  refine (broadcastInDim_apply _ _ _ _ (ix2 i (0 : Fin 1)) fun a => match a with | ⟨0, _⟩ => rfl | ⟨1, _⟩ => rfl).trans ?_
  exact broadcastInDim_apply _ _ _ _ (ix1 i) fun a => match a with | ⟨0, _⟩ => rfl

/-- A quotient at an index. -/
theorem hostDivf_apply {s : Shape} {φ : FTy} (a b : FVec Ideal s φ) (i : s.Idx) : Host.divf a b i = Ideal.div (a i) (b i) := rfl

theorem word_128 : Ideal.ofBits .f32 0x43000000#32 = ((128 : ℝ) : EReal) := by
  simp [Ideal.ofBits, Ideal.ieee, -EReal.coe_mul]
  norm_num

theorem sqrt_128_pos : (0 : ℝ) < Real.sqrt 128 := Real.sqrt_pos.mpr (by norm_num)

theorem score_apply (i j : Fin 16384) :
    scores q k (ix2 i j) = (∑ t : Fin 128, q (ix2 i t) * k (ix2 j t)) * (((Real.sqrt 128)⁻¹ : ℝ) : EReal) := by
  unfold scores
  show Ideal.div (Host.dotGeneral (F := Ideal) (φ₁ := .f32) (φ₂ := .f32) _ none _ _ (ix2 i j)) (Ideal.sqrt (Ideal.ofBits .f32 0x43000000#32)) = _
  rw [word_128, Ideal.sqrt_coe, if_neg (by norm_num), Ideal.div_coe sqrt_128_pos.ne', one_div, dot_scores]
  refine congrArg (· * _) ((StackMember.dotGeneral_plain_apply none _ _ i j).trans (Finset.sum_congr rfl fun t _ => ?_))
  rw [transpose_ix2_apply]
  rfl

/-- The reduction over the columns keeps the row. -/
theorem reduces : S16384x16384.Reduces [1] S16384 := by decide

variable {q k}

/-- A row of the result, its scores real: every value under its weight. -/
theorem result_apply (i : Fin 16384) (σ : Fin 16 → Fin 1024 → ℝ) (hσ : ∀ d r, scores q k (ix2 i (pos d r)) = (σ d r : EReal))
    (e : Fin 128) : result q k v (ix2 i e) = ∑ d, ∑ r, (weight σ d r : EReal) * v (ix2 (pos d r) e) := by
  have htop : ∃ μ : ℝ, top q k (ix1 i) = μ := by
    obtain ⟨μ, hμ⟩ := fold_max_coe (S := (Finset.univ : Finset (Fin 16384))) Finset.univ_nonempty fun j => (scores q k (ix2 i j)).toReal
    refine ⟨μ, Eq.trans ?_ hμ⟩
    unfold top
    refine (Host.reduce_eq_fold_single _ _ _ _ reduces _ _).trans ?_
    refine congrArg₂ (fun b f => (Finset.univ : Finset (Fin 16384)).fold max b f) neg_inf (funext fun j => ?_)
    have e : reduces.lift (ix1 i) j = ix2 i j := by funext a; match a with | ⟨0, _⟩ => rfl | ⟨1, _⟩ => rfl
    show scores q k (reduces.lift (ix1 i) j) = _
    rw [e]
    obtain ⟨d, r, rfl⟩ := exists_pos j
    simp only [hσ, EReal.toReal_coe]
    exact hσ d r
  obtain ⟨μ, hμ⟩ := htop
  have hexp : ∀ d r, exps q k (ix2 i (pos d r)) = Ideal.exp ((σ d r : EReal) - (μ : EReal)) := fun d r => by
    show Ideal.exp (scores q k _ - wide _ _) = _
    rw [wide_apply, hμ, hσ]
  have hsum : Host.reduceAdd (exps q k) (constant S_ .f32 0x00000000#32) reducesTo_S16384x16384_S16384_d1 h_S_ (ix1 i)
      = ∑ d, ∑ r, Ideal.exp ((σ d r : EReal) - (μ : EReal)) := by
    refine (Ideal.hostReduceAdd_single _ reduces _ _ _).trans ?_
    show Ideal.ofBits .f32 0x00000000#32 + _ = _
    rw [Ideal.ofBits_zero_f32, zero_add]
    refine (sum_pos fun j => exps q k (reduces.lift (ix1 i) j)).trans
      (Finset.sum_congr rfl fun d _ => Finset.sum_congr rfl fun r _ => Eq.trans (congrArg (exps q k) ?_) (hexp d r))
    funext a; match a with | ⟨0, _⟩ => rfl | ⟨1, _⟩ => rfl
  have hw : ∀ d r, Host.divf (exps q k) (wide (Host.reduceAdd (exps q k) (constant S_ .f32 0x00000000#32) reducesTo_S16384x16384_S16384_d1 h_S_))
      (ix2 i (pos d r)) = (weight σ d r : EReal) := fun d r => by
    rw [hostDivf_apply, wide_apply, hsum, hexp]
    exact textbook_quotient σ μ d r
  unfold result
  rw [dot_values]
  refine (StackMember.dotGeneral_plain_apply none _ _ i e).trans ((sum_pos _).trans
    (Finset.sum_congr rfl fun d _ => Finset.sum_congr rfl fun r _ => ?_))
  rw [hw]
  rfl

end Cert.RingAttn.Ref

end
-- ==== Proof.Value.lean ====
/-
The value: what the sixteen devices' result arrays end holding is the reference's result, cut into their blocks.
-/
module

public import proofs.«01_k».proof.Defs
public import proofs.«01_k».proof.Proof.Frames
public import proofs.«01_k».proof.Proof.Rows
public import proofs.«01_k».proof.Proof.RefRow
public import Idealize.ShloMosaic.Lib.ReduceAll

@[expose] public section

noncomputable section

namespace Cert.RingAttn

open Cert.KernelIdeal Cert.KernelIdeal.Gen
open Idealize.ShloMosaic
open Idealize.ShloMosaic.ValueIdx
open Idealize.ShloMosaic.TcCoe
open Idealize.SL Idealize.SL.Sem
open scoped BigOperators

/-! ## The windows are the whole arrays -/

section Windows
variable {F : FTy → Type} [FloatOps F] [Named F]
variable (m : (ℓ : Loc nD τ sig) → Buf (Elt F) ℓ) (ρ : Dev nD → PrngReg) (c : Dev nD)

theorem qst_eq : qst m c = m ((c : Thread nD τ).loc main_arg0) := by
  have hz : (fun a => (win0_0.index (0 : Fin 1)) a * main_arg0.ty.shape.size a) = fun _ => 0 := funext fun a => by fin_cases a <;> decide
  exact (show qst m c = (win0_0.blk (0 : Fin 1)).view.read (Elt F) (m ((c : Thread nD τ).loc main_arg0)) from rfl).trans
    (Memref.read_access_unit_zero (Elt F) main_arg0 hz (fun a => by fin_cases a <;> decide) _)
theorem kst_eq : kst m c = m ((c : Thread nD τ).loc main_arg1) := by
  have hz : (fun a => (win0_1.index (0 : Fin 1)) a * main_arg1.ty.shape.size a) = fun _ => 0 := funext fun a => by fin_cases a <;> decide
  exact (show kst m c = (win0_1.blk (0 : Fin 1)).view.read (Elt F) (m ((c : Thread nD τ).loc main_arg1)) from rfl).trans
    (Memref.read_access_unit_zero (Elt F) main_arg1 hz (fun a => by fin_cases a <;> decide) _)
theorem vst_eq : vst m c = m ((c : Thread nD τ).loc main_arg2) := by
  have hz : (fun a => (win0_2.index (0 : Fin 1)) a * main_arg2.ty.shape.size a) = fun _ => 0 := funext fun a => by fin_cases a <;> decide
  exact (show vst m c = (win0_2.blk (0 : Fin 1)).view.read (Elt F) (m ((c : Thread nD τ).loc main_arg2)) from rfl).trans
    (Memref.read_access_unit_zero (Elt F) main_arg2 hz (fun a => by fin_cases a <;> decide) _)

/-- The result's array ends at what the body left. -/
theorem finalA_out : finalA m ρ c (3 : Fin 4) = outVal m c := by
  have hz : (fun a => (win0_3.index (0 : Fin 1)) a * main_v1.ty.shape.size a) = fun _ => 0 := funext fun a => by fin_cases a <;> decide
  refine (Memref.read_access_unit_zero (Elt F) main_v1 hz (fun a => by fin_cases a <;> decide) _).symm.trans
    (?_ : (win0_3.blk (0 : Fin 1)).view.read (Elt F) (finalA m ρ c (3 : Fin 4)) = outVal m c)
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from by decide, if_pos rfl]
  exact View.read_write_univ _ _

end Windows

/-! ## The blocks in their order are each device's once -/

theorem order_perm (c : Dev nD) : (order.map (orig c)).Perm (List.finRange 16) := by
  revert c; decide +kernel

theorem order_sum (c : Dev nD) (f : Dev nD → EReal) : ((order.map (orig c)).map f).sum = ∑ d, f d :=
  (((order_perm c).map f).sum_eq).trans (Fin.sum_univ_def f).symm

/-! ## Finite rows -/

/-- An extended real that is neither infinity. -/
def IsFin (x : EReal) : Prop := x ≠ ⊤ ∧ x ≠ ⊥

/-- The score of two finite rows, a real number. -/
def score (a b : Fin 128 → EReal) : ℝ := (∑ t, (a t).toReal * (b t).toReal) * (Real.sqrt 128)⁻¹

theorem score_eq {a b : Fin 128 → EReal} (ha : ∀ t, IsFin (a t)) (hb : ∀ t, IsFin (b t)) :
    (∑ t, a t * b t) * (((Real.sqrt 128)⁻¹ : ℝ) : EReal) = (score a b : EReal) := by
  rw [score, EReal.coe_mul, coe_sum]
  refine congrArg (· * _) (Finset.sum_congr rfl fun t _ => ?_)
  rw [EReal.coe_mul, EReal.coe_toReal (ha t).1 (ha t).2, EReal.coe_toReal (hb t).1 (hb t).2]

/-! ## The kernel's rows -/

section Kernel
variable (m : (ℓ : Loc nD τ sig) → Buf (Elt Ideal) ℓ) (c : Dev nD)

/-- The arguments' entries on a device. -/
def qAt (c : Dev nD) (i : Fin 1024) (t : Fin 128) : EReal := m ((c : Thread nD τ).loc main_arg0) (ix2 i t)
def kAt (c : Dev nD) (i : Fin 1024) (t : Fin 128) : EReal := m ((c : Thread nD τ).loc main_arg1) (ix2 i t)
def vAt (c : Dev nD) (i : Fin 1024) (t : Fin 128) : EReal := m ((c : Thread nD τ).loc main_arg2) (ix2 i t)

theorem query_apply (i : Fin 1024) (t : Fin 128) : k0_pay5 (qst m c) (ix2 i t) = qAt m c i t := by
  unfold k0_pay5
  rw [qst_eq]
  exact shapeCast_apply _ _ _ _ rfl

theorem keys_apply (d : Dev nD) (r : Fin 1024) (t : Fin 128) : blkOf m false d (ix3 (0 : Fin 1) r t) = kAt m d r t := by
  show k0_pay1 (kst m d) _ = _
  unfold k0_pay1
  rw [kst_eq, shapeCast_ab_1ab_apply]
  exact shapeCast_apply _ _ _ _ rfl

theorem vals_apply (d : Dev nD) (r : Fin 1024) (t : Fin 128) : blkOf m true d (ix3 (0 : Fin 1) r t) = vAt m d r t := by
  show k0_pay6 (vst m d) _ = _
  unfold k0_pay6
  rw [vst_eq, shapeCast_ab_1ab_apply]
  exact shapeCast_apply _ _ _ _ rfl

variable {m}

/-- After any blocks the kernel's values, on a row and a column, are the running softmax's. -/
theorem running (hq : ∀ c i t, IsFin (qAt m c i t)) (hk : ∀ c i t, IsFin (kAt m c i t)) (i : Fin 1024) (e : Fin 128) :
    ∀ (ss : List ℕ) (P : List (Dev nD)) (s : Acc Ideal),
      Running (fun d r => score (qAt m c i) (kAt m d r)) (fun d r => vAt m d r e) P
        (s.m (ix2 i (0 : Fin 1))) (s.l (ix2 i (0 : Fin 1))) (s.a (ix2 i e)) →
      let s' := ss.foldl (fun s n => step (k0_pay5 (qst m c)) (blkOf m false (orig c n)) (blkOf m true (orig c n)) s) s
      Running (fun d r => score (qAt m c i) (kAt m d r)) (fun d r => vAt m d r e) (P ++ ss.map (orig c))
        (s'.m (ix2 i (0 : Fin 1))) (s'.l (ix2 i (0 : Fin 1))) (s'.a (ix2 i e))
  | [], P, s, h => by simpa using h
  | n :: ss, P, s, h => by
    have hs : ∀ r, k0_pay13 (k0_pay5 (qst m c)) (blkOf m false (orig c n)) (ix2 i r)
        = (score (qAt m c i) (kAt m (orig c n) r) : EReal) := fun r => by
      rw [score_apply, ← score_eq (hq c i) (hk (orig c n) r)]
      simp only [query_apply, keys_apply]
    have h1 := h.snoc _ _ (orig c n) (M' := (step (k0_pay5 (qst m c)) (blkOf m false (orig c n)) (blkOf m true (orig c n)) s).m (ix2 i (0 : Fin 1)))
      (by rw [max_apply]; simp only [hs])
    have h2 := running hq hk i e ss (P ++ [orig c n]) (step (k0_pay5 (qst m c)) (blkOf m false (orig c n)) (blkOf m true (orig c n)) s) (by
      rw [sum_apply, acc_apply]
      simp only [hs, vals_apply]
      exact h1)
    simpa using h2

/-- The kernel's result on a row and a column: every value under its weight. -/
theorem out_apply (hq : ∀ c i t, IsFin (qAt m c i t)) (hk : ∀ c i t, IsFin (kAt m c i t)) (i : Fin 1024) (e : Fin 128) :
    outVal m c (ix2 i e) = ∑ d, ∑ r, (weight (fun d r => score (qAt m c i) (kAt m d r)) d r : EReal) * vAt m d r e := by
  have h0 := running c hq hk i e order [] ⟨k0_pay2, k0_pay3, k0_pay4⟩ (by
    have e2 : (k0_pay2 : FVec Ideal S1024x1 .f32) (ix2 i (0 : Fin 1)) = ⊥ := neg_inf
    have e3 : (k0_pay3 : FVec Ideal S1024x1 .f32) (ix2 i (0 : Fin 1)) = 0 := Ideal.ofBits_zero_f32
    have e4 : (k0_pay4 : FVec Ideal S1024x128 .f32) (ix2 i e) = 0 := Ideal.ofBits_zero_f32
    dsimp only
    rw [e2, e3, e4]
    exact running_nil _ _)
  refine Eq.trans ?_ (h0.quotient _ _ (by rw [List.nil_append]; exact order_sum c) (by simp [order]))
  unfold outVal k0_pay122
  refine (divf_apply _ _ _).trans (congrArg _ ?_)
  exact across_apply _ _ i e

end Kernel

/-! ## The precondition -/

theorem pre_facts : Cert.Pre_finite_qk_KernelIdeal.Facts := ⟨by decide, by decide, by decide⟩
theorem pre_facts_whole : Cert.Pre_finite_qk_ReferenceIdeal.Facts := ⟨by decide, by decide, by decide⟩

/-- An absolute value below the largest extended real is that of a finite one. -/
theorem isFin_of_cmp {x : EReal} (h : Ideal.cmp .olt (max x (-x)) (Ideal.ofBits .bf16 0x7F80#16) = 1#1) : IsFin x := by
  have e : Ideal.ofBits .bf16 0x7F80#16 = ⊤ := by simp [Ideal.ofBits, Ideal.ieee]
  rw [e] at h
  have h' : max x (-x) < ⊤ := by
    by_contra hn
    simp [Ideal.cmp, hn] at h
  constructor
  · rintro rfl
    simp at h'
  · rintro rfl
    simp at h'

instance : Subsingleton (Cert.Pre_finite_qk_KernelIdeal.S_.Idx) := ⟨fun a b => funext fun x => x.elim0⟩

/-- What the precondition says: on every device `q`'s and `k`'s entries are finite. -/
theorem pre_finite {m : (ℓ : Loc nD τ sig) → Buf (Elt Ideal) ℓ}
    (h : Cert.Pre_KernelIdeal_finite_qk_KernelIdeal (hPre_finite_qk_KernelIdeal := pre_facts) m) :
    (∀ c i t, IsFin (qAt m c i t)) ∧ (∀ c i t, IsFin (kAt m c i t)) := by
  letI := pre_facts
  have both : ∀ c, _ ∧ _ := fun c => IntOp.andi_eq_one.mp (congrFun (h c) ix0)
  exact ⟨fun c i t => isFin_of_cmp (Host.reduce_andi_all _ _ _ _ _ (both c).1 (ix2 i t)),
    fun c i t => isFin_of_cmp (Host.reduce_andi_all _ _ _ _ _ (both c).2 (ix2 i t))⟩

/-! ## The claim -/

section Whole
variable {m : (ℓ : Loc nD τ sig) → Buf (Elt Ideal) ℓ}

/-- An entry of a device's block, in the whole array. -/
theorem block_at {α : Type} (x : (⟨2, ![16384, 128]⟩ : Shape).Idx → α) (c : Fin 16) (i : Fin 1024) (t : Fin 128) :
    Layout.block ⟨2, ![1024, 128]⟩ ⟨2, ![16384, 128]⟩ 0 16 c x (by decide) (ix2 i t) = x (ix2 (Ref.pos c i) t) := by
  rw [Layout.block_apply]
  refine congrArg x (funext fun a => Fin.ext ?_)
  match a with | ⟨0, _⟩ => rfl | ⟨1, _⟩ => rfl

/-- The devices' results are the blocks of the reference's. -/
theorem out_eq (q k v : FVec Ideal ⟨2, ![16384, 128]⟩ .bf16)
    (hq : ∀ c i t, IsFin (qAt m c i t)) (hk : ∀ c i t, IsFin (kAt m c i t))
    (eq : ∀ c i t, qAt m c i t = q (ix2 (Ref.pos c i) t)) (ek : ∀ c i t, kAt m c i t = k (ix2 (Ref.pos c i) t))
    (ev : ∀ c i t, vAt m c i t = v (ix2 (Ref.pos c i) t)) (c : Dev nD) :
    outVal m c = Layout.block ⟨2, ![1024, 128]⟩ ⟨2, ![16384, 128]⟩ 0 16 c (Ref.result q k v) := by
  have rows : ∀ (i : Fin 1024) (e : Fin 128), outVal m c (ix2 i e)
      = Layout.block ⟨2, ![1024, 128]⟩ ⟨2, ![16384, 128]⟩ 0 16 c (Ref.result q k v) (by decide) (ix2 i e) := fun i e => by
    rw [block_at, out_apply c hq hk, Ref.result_apply v (Ref.pos c i) (fun d r => score (qAt m c i) (kAt m d r))]
    · simp only [ev]
    · intro d r
      rw [Ref.score_apply, ← score_eq (hq c i) (hk d r)]
      simp only [eq, ek]
  funext j
  obtain ⟨i, e, rfl⟩ : ∃ (i : Fin 1024) (e : Fin 128), j = ix2 i e := ⟨j 0, j 1, eq_ix2 j⟩
  exact rows i e

end Whole

set_option maxRecDepth 20000 in
/-- The reference's run, its result by name. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r =>
      ∀ c : Dev Cert.ReferenceIdeal.nD,
      r.2.mem ((c.tc : Thread Cert.ReferenceIdeal.nD Cert.ReferenceIdeal.τ).loc Cert.ReferenceIdeal.main_v18)
        = Ref.result (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2) := by
  unfold Ref.result Ref.exps Ref.top Ref.wide Ref.scores
  exact Cert.ReferenceIdeal.Value.run (F := Ideal) m ρ

theorem algebraic : Cert.algebraic_KernelIdeal_ReferenceIdeal_pre_finite_qk_KernelIdeal (hPre_finite_qk_KernelIdeal := pre_facts) := by
  intro m ρ m' ρ' hpre hagree
  obtain ⟨hq, hk⟩ := pre_finite hpre
  refine ⟨_, ?_, (θ_run Cert.ReferenceIdeal.defs _ _).mono (fun _ h => h 0) (reference_run m' ρ')⟩
  refine (θ_run Cert.KernelIdeal.defs _ _).mono (fun _ h c => ⟨?_, ends_args m ρ h.1 c⟩) (run_main (F := Ideal) m ρ)
  refine ((h.1 c (3 : Fin 4)).trans (finalA_out m ρ c)).trans (out_eq _ _ _ hq hk ?_ ?_ ?_ c)
  · exact fun c i t => (congrFun (hagree c).1 (ix2 i t)).trans (block_at _ c i t)
  · exact fun c i t => (congrFun (hagree c).2.1 (ix2 i t)).trans (block_at _ c i t)
  · exact fun c i t => (congrFun (hagree c).2.2 (ix2 i t)).trans (block_at _ c i t)

end Cert.RingAttn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.RingAttn.pre_facts, Cert.RingAttn.pre_facts_whole,
  Cert.RingAttn.frame_kernel, Cert.RingAttn.frame_ideal, fun m g _ => Cert.RingAttn.frame_ideal m g trivial,
  Cert.RingAttn.frame_reference, fun m g _ => Cert.RingAttn.frame_reference m g trivial,
  Cert.RingAttn.preserves, Cert.RingAttn.algebraic⟩

end Cert.Proof

end
